-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_untied [hPre_finite_untied : Cert.Pre_finite_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_untied [hPre_finite_untied : Cert.Pre_finite_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_untied [hKernelIdeal : Cert.KernelIdeal.Facts] [hPre_finite_untied : Cert.Pre_finite_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_untied [hReferenceIdeal : Cert.ReferenceIdeal.Facts] [hPre_finite_untied : Cert.Pre_finite_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_untied [hKernelIdeal : Cert.KernelIdeal.Facts] [hReferenceIdeal : Cert.ReferenceIdeal.Facts] [hPre_finite_untied : Cert.Pre_finite_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_untied : Cert.Pre_finite_untied.Facts),
    quiescent_Kernel (hKernel := hKernel)
    ∧ quiescent_KernelIdeal (hKernelIdeal := hKernelIdeal)
    ∧ quiescent_KernelIdeal_pre_finite_untied (hKernelIdeal := hKernelIdeal) (hPre_finite_untied := hPre_finite_untied)
    ∧ quiescent_ReferenceIdeal (hReferenceIdeal := hReferenceIdeal)
    ∧ quiescent_ReferenceIdeal_pre_finite_untied (hReferenceIdeal := hReferenceIdeal) (hPre_finite_untied := hPre_finite_untied)
    ∧ preserves_Kernel_KernelIdeal
    ∧ algebraic_KernelIdeal_ReferenceIdeal_pre_finite_untied (hKernelIdeal := hKernelIdeal) (hReferenceIdeal := hReferenceIdeal) (hPre_finite_untied := hPre_finite_untied)
-- ==== Pre_finite_untied.lean ====
abbrev S16x64x32x32 : Shape := ⟨4, ![16, 64, 32, 32]⟩
abbrev S1024x64 : Shape := ⟨2, ![1024, 64]⟩
abbrev S16384x64 : Shape := ⟨2, ![16384, 64]⟩
abbrev S16x32x32x64 : Shape := ⟨4, ![16, 32, 32, 64]⟩
abbrev S_ : Shape := ⟨0, ![]⟩
abbrev S16384 : Shape := ⟨1, ![16384]⟩
abbrev S16384x1 : Shape := ⟨2, ![16384, 1]⟩
abbrev S64x1024 : Shape := ⟨2, ![64, 1024]⟩
abbrev S16384x1024 : Shape := ⟨2, ![16384, 1024]⟩
abbrev S1024 : Shape := ⟨1, ![1024]⟩
abbrev S1x1024 : Shape := ⟨2, ![1, 1024]⟩

class Facts : Prop where
  transposes_S16x64x32x32_S16x32x32x64_0_2_3_1 : S16x64x32x32.Transposes [0, 2, 3, 1] S16x32x32x64
  shapeCasts_S16x32x32x64_S16384x64 : S16x32x32x64.ShapeCasts S16384x64
  reducesTo_S16384x64_S16384_d1 : S16384x64.ReducesTo [1] S16384
  h_S_ : 0 < S_.numel
  bcast_S16384_S16384x1_0 : S16384.BroadcastsInDim S16384x1 (![0] : Fin 1 → Fin S16384x1.rank)
  transposes_S1024x64_S64x1024_1_0 : S1024x64.Transposes [1, 0] S64x1024
  bcast_S_S16384x1024 : S_.BroadcastsInDim S16384x1024 (![] : Fin 0 → Fin S16384x1024.rank)
  bcast_S16384x1_S16384x1024_0_1 : S16384x1.BroadcastsInDim S16384x1024 (![0, 1] : Fin 2 → Fin S16384x1024.rank)
  reducesTo_S64x1024_S1024_d0 : S64x1024.ReducesTo [0] S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  shapeCasts_S16384_S16384x1 : S16384.ShapeCasts S16384x1
  bcast_S_S16x64x32x32 : S_.BroadcastsInDim S16x64x32x32 (![] : Fin 0 → Fin S16x64x32x32.rank)
  bcast_S_S1024x64 : S_.BroadcastsInDim S1024x64 (![] : Fin 0 → Fin S1024x64.rank)
  dot_S16384x64_S64x1024_S16384x1024_1_0_0_1_n_n_wf : DotDims.WF S16384x64 S64x1024 S16384x1024 [1] [0] [0] [1] [] []

variable [Facts]

variable {F : FTy → Type} [FloatOps F]
def dot_S16384x64_S64x1024_S16384x1024_1_0_0_1_n_n : DotDims S16384x64 S64x1024 S16384x1024 where
  lhsContracting := [1]
  rhsContracting := [0]
  lhsNonContracting := [0]
  rhsNonContracting := [1]
  lhsBatch := []
  rhsBatch := []
  wf := dot_S16384x64_S64x1024_S16384x1024_1_0_0_1_n_n_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmin {F : FTy → Type} [FloatOps F] (arg0 : FVec F S16384x1024 .f32) : IVec S16384 32 :=
  let v0 : IVec S16384x1024 32 := iotaInDim S16384x1024 32 1
  let cst : FVec F S_ .f32 := constant S_ .f32 0x7F800000#32
  let c : IVec S_ 32 := constantI S_ 32 0#32
  let v1_0 : FVec F S16384 .f32 := (fun x y u v j => (Host.argReduce reducer_argmin_f32_i32 x y u v reducesTo_S16384x1024_S16384_d1 h_S_ j).1) arg0 v0 cst c
  let v1_1 : IVec S16384 32 := (fun x y u v j => (Host.argReduce reducer_argmin_f32_i32 x y u v reducesTo_S16384x1024_S16384_d1 h_S_ j).2) arg0 v0 cst c
  v1_1

def fn_part1 {F : FTy → Type} [FloatOps F] (main_arg0 : FVec F S16x64x32x32 .f32) (main_arg1 : FVec F S1024x64 .f32) (main_v16 : FVec F S16384x1024 .f32) (main_v18 : IVec S16384x1 32) (main_v19 : IVec S16384x1024 32) (main_cst_2 : FVec F S_ .f32) : IVec S16x64x32x32 1 × IVec S1024x64 1 × IVec S16384x1024 1 :=
  let main_v20 : FVec F S16384 .f32 := (fun x v => Host.reduce FloatOps.minimumf x v reducesTo_S16384x1024_S16384_d1 h_S_) main_v16 main_cst_2
  let main_v21 : FVec F S16384x1 .f32 := broadcastInDim S16384x1 ![0] bcast_S16384_S16384x1_0 main_v20
  let main_v22 : FVec F S16384x1024 .f32 := broadcastInDim S16384x1024 ![0, 1] bcast_S16384x1_S16384x1024_0_1 main_v21
  let main_v23 : IVec S16384x1024 1 := cmpf .ogt main_v16 main_v22
  let main_v24 : IVec S16384x1024 32 := broadcastInDim S16384x1024 ![0, 1] bcast_S16384x1_S16384x1024_0_1 main_v18
  let main_v25 : IVec S16384x1024 1 := cmpi .eq main_v19 main_v24
  let main_v26 : IVec S16384x1024 1 := ori main_v23 main_v25
  let main_v27 : FVec F S16x64x32x32 .f32 := Host.absf main_arg0
  let main_cst_3 : FVec F S_ .f32 := constant S_ .f32 0x7F800000#32
  let main_v28 : FVec F S16x64x32x32 .f32 := broadcastInDim S16x64x32x32 ![] bcast_S_S16x64x32x32 main_cst_3
  let main_v29 : IVec S16x64x32x32 1 := cmpf .olt main_v27 main_v28
  let main_v30 : FVec F S1024x64 .f32 := Host.absf main_arg1
  let main_cst_4 : FVec F S_ .f32 := constant S_ .f32 0x7F800000#32
  let main_v31 : FVec F S1024x64 .f32 := broadcastInDim S1024x64 ![] bcast_S_S1024x64 main_cst_4
  let main_v32 : IVec S1024x64 1 := cmpf .olt main_v30 main_v31
  (main_v29, main_v32, main_v26)

def fn {F : FTy → Type} [FloatOps F] (main_arg0 : FVec F S16x64x32x32 .f32) (main_arg1 : FVec F S1024x64 .f32) (main_arg2 : FVec F S16384x64 .f32) : IVec S16x64x32x32 1 × IVec S1024x64 1 × IVec S16384x1024 1 :=
  let main_v0 : FVec F S16x32x32x64 .f32 := (transpose S16x32x32x64 [0, 2, 3, 1] · transposes_S16x64x32x32_S16x32x32x64_0_2_3_1) main_arg0
  let main_v1 : FVec F S16384x64 .f32 := shapeCast S16384x64 main_v0 shapeCasts_S16x32x32x64_S16384x64
  let main_v2 : FVec F S16384x64 .f32 := mulf main_v1 main_v1
  let main_cst : FVec F S_ .f32 := constant S_ .f32 0x00000000#32
  let main_v3 : FVec F S16384 .f32 := (fun x v => Host.reduceAdd x v reducesTo_S16384x64_S16384_d1 h_S_) main_v2 main_cst
  let main_v4 : FVec F S16384x1 .f32 := broadcastInDim S16384x1 ![0] bcast_S16384_S16384x1_0 main_v3
  let main_v5 : FVec F S64x1024 .f32 := (transpose S64x1024 [1, 0] · transposes_S1024x64_S64x1024_1_0) main_arg1
  let main_v6 : FVec F S16384x1024 .f32 := (fun l r => Host.dotGeneral dot_S16384x64_S64x1024_S16384x1024_1_0_0_1_n_n none l r) main_v1 main_v5
  let main_cst_0 : FVec F S_ .f32 := constant S_ .f32 0x40000000#32
  let main_v7 : FVec F S16384x1024 .f32 := broadcastInDim S16384x1024 ![] bcast_S_S16384x1024 main_cst_0
  let main_v8 : FVec F S16384x1024 .f32 := mulf main_v7 main_v6
  let main_v9 : FVec F S16384x1024 .f32 := broadcastInDim S16384x1024 ![0, 1] bcast_S16384x1_S16384x1024_0_1 main_v4
  let main_v10 : FVec F S16384x1024 .f32 := subf main_v9 main_v8
  let main_v11 : FVec F S64x1024 .f32 := (transpose S64x1024 [1, 0] · transposes_S1024x64_S64x1024_1_0) main_arg1
  let main_v12 : FVec F S64x1024 .f32 := mulf main_v11 main_v11
  let main_cst_1 : FVec F S_ .f32 := constant S_ .f32 0x00000000#32
  let main_v13 : FVec F S1024 .f32 := (fun x v => Host.reduceAdd x v reducesTo_S64x1024_S1024_d0 h_S_) main_v12 main_cst_1
  let main_v14 : FVec F S1x1024 .f32 := broadcastInDim S1x1024 ![1] bcast_S1024_S1x1024_1 main_v13
  let main_v15 : FVec F S16384x1024 .f32 := broadcastInDim S16384x1024 ![0, 1] bcast_S1x1024_S16384x1024_0_1 main_v14
  let main_v16 : FVec F S16384x1024 .f32 := addf main_v10 main_v15
  let main_v17 : IVec S16384 32 := fn_argmin (F := F) main_v16
  let main_v18 : IVec S16384x1 32 := shapeCast S16384x1 main_v17 shapeCasts_S16384_S16384x1
  let main_v19 : IVec S16384x1024 32 := iotaInDim S16384x1024 32 1
  let main_cst_2 : FVec F S_ .f32 := constant S_ .f32 0x7F800000#32
  fn_part1 (F := F) main_arg0 main_arg1 main_v16 main_v18 main_v19 main_cst_2
-- ==== Kernel.lean ====
abbrev S16x64x32x32 : Shape := ⟨4, ![16, 64, 32, 32]⟩
abbrev S1024x64 : Shape := ⟨2, ![1024, 64]⟩
abbrev S16384x64 : Shape := ⟨2, ![16384, 64]⟩
abbrev S16x64x1024 : Shape := ⟨3, ![16, 64, 1024]⟩
abbrev S16x1024x64 : Shape := ⟨3, ![16, 1024, 64]⟩
abbrev S1x1 : Shape := ⟨2, ![1, 1]⟩
abbrev S4x64x1024 : Shape := ⟨3, ![4, 64, 1024]⟩
abbrev S1024x1 : Shape := ⟨2, ![1024, 1]⟩
abbrev S1024x65 : Shape := ⟨2, ![1024, 65]⟩
abbrev S1024 : Shape := ⟨1, ![1024]⟩
abbrev S1x64x1024 : Shape := ⟨3, ![1, 64, 1024]⟩
abbrev S64x1024 : Shape := ⟨2, ![64, 1024]⟩
abbrev S64x4096 : Shape := ⟨2, ![64, 4096]⟩
abbrev S1x4096 : Shape := ⟨2, ![1, 4096]⟩
abbrev S65x4096 : Shape := ⟨2, ![65, 4096]⟩
abbrev S1024x4096 : Shape := ⟨2, ![1024, 4096]⟩
abbrev S4096 : Shape := ⟨1, ![4096]⟩
abbrev S1x1024x1 : Shape := ⟨3, ![1, 1024, 1]⟩
abbrev S1 : Shape := ⟨1, ![1]⟩
abbrev S1x1x1 : Shape := ⟨3, ![1, 1, 1]⟩
abbrev S_ : Shape := ⟨0, ![]⟩

abbrev nBuf : Space → Nat
  | .hbm => 10
  | .vmem => 10
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16384x64, .f32⟩
  | .hbm, ⟨3, _⟩ => ⟨S16x64x1024, .f32⟩
  | .hbm, ⟨4, _⟩ => ⟨S16x1024x64, .f32⟩
  | .hbm, ⟨5, _⟩ => ⟨S16x64x1024, .f32⟩
  | .hbm, ⟨6, _⟩ => ⟨S16x64x1024, .f32⟩
  | .hbm, ⟨7, _⟩ => ⟨S1x1, .f32⟩
  | .hbm, ⟨8, _⟩ => ⟨S16x64x32x32, .f32⟩
  | .hbm, ⟨9, _⟩ => ⟨S_, .f32⟩
  | .local _ .vmem, ⟨0, _⟩ => ⟨S4x64x1024, .f32⟩
  | .local _ .vmem, ⟨1, _⟩ => ⟨S4x64x1024, .f32⟩
  | .local _ .vmem, ⟨2, _⟩ => ⟨S1024x64, .f32⟩
  | .local _ .vmem, ⟨3, _⟩ => ⟨S4x64x1024, .f32⟩
  | .local _ .vmem, ⟨4, _⟩ => ⟨S4x64x1024, .f32⟩
  | .local _ .vmem, ⟨5, _⟩ => ⟨S4x64x1024, .f32⟩
  | .local _ .vmem, ⟨6, _⟩ => ⟨S4x64x1024, .f32⟩
  | .local _ .vmem, ⟨7, _⟩ => ⟨S1x1, .f32⟩
  | .local _ .vmem, ⟨8, _⟩ => ⟨S1024x1, .f32⟩
  | .local _ .vmem, ⟨9, _⟩ => ⟨S1024x65, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v84 : BitVec 1 := Scalar.cmpi .eq arg0 c3_i32
  let v85 : BitVec 32 := Scalar.extui v84
  let c0_i32_55 : BitVec 32 := 0#32
  let v86 : BitVec 1 := Scalar.cmpi .ne v85 c0_i32_55
  v86

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16x64x32x32 : Shape := ⟨4, ![16, 64, 32, 32]⟩
abbrev S1024x64 : Shape := ⟨2, ![1024, 64]⟩
abbrev S16384x64 : Shape := ⟨2, ![16384, 64]⟩
abbrev S16x32x32x64 : Shape := ⟨4, ![16, 32, 32, 64]⟩
abbrev S_ : Shape := ⟨0, ![]⟩
abbrev S16384 : Shape := ⟨1, ![16384]⟩
abbrev S16384x1 : Shape := ⟨2, ![16384, 1]⟩
abbrev S64x1024 : Shape := ⟨2, ![64, 1024]⟩
abbrev S16384x1024 : Shape := ⟨2, ![16384, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 91
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16384x64, .f32⟩
  | .hbm, ⟨3, _⟩ => ⟨S16x32x32x64, .f32⟩
  | .hbm, ⟨4, _⟩ => ⟨S16384x64, .f32⟩
  | .hbm, ⟨5, _⟩ => ⟨S16384x64, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S64x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S64x1024, .f32⟩
  | .hbm, ⟨17, _⟩ => ⟨S64x1024, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .i32⟩
  | .hbm, ⟨24, _⟩ => ⟨S_, .f32⟩
  | .hbm, ⟨25, _⟩ => ⟨S_, .i32⟩
  | .hbm, ⟨26, _⟩ => ⟨S16384, .f32⟩
  | .hbm, ⟨27, _⟩ => ⟨S16384, .i32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384x64, .f32⟩
  | .hbm, ⟨47, _⟩ => ⟨S16384x64, .i1⟩
  | .hbm, ⟨48, _⟩ => ⟨S_, .f32⟩
  | .hbm, ⟨49, _⟩ => ⟨S16384x64, .f32⟩
  | .hbm, ⟨50, _⟩ => ⟨S16384x64, .f32⟩
  | .hbm, ⟨51, _⟩ => ⟨S16384x64, .f32⟩
  | .hbm, ⟨52, _⟩ => ⟨S16384x64, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S16384x1, .f32⟩
  | .hbm, ⟨57, _⟩ => ⟨S16384x64, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S16384x1, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S16384x64, .f32⟩
  | .hbm, ⟨67, _⟩ => ⟨S16384x64, .f32⟩
  | .hbm, ⟨68, _⟩ => ⟨S16384x64, .f32⟩
  | .hbm, ⟨69, _⟩ => ⟨S16x32x32x64, .f32⟩
  | .hbm, ⟨70, _⟩ => ⟨S16384x1, .i32⟩
  | .hbm, ⟨71, _⟩ => ⟨S1x1024, .i32⟩
  | .hbm, ⟨72, _⟩ => ⟨S16384x1024, .i32⟩
  | .hbm, ⟨73, _⟩ => ⟨S16384x1024, .i32⟩
  | .hbm, ⟨74, _⟩ => ⟨S16384x1024, .i1⟩
  | .hbm, ⟨75, _⟩ => ⟨S16384x1024, .f32⟩
  | .hbm, ⟨76, _⟩ => ⟨S_, .f32⟩
  | .hbm, ⟨77, _⟩ => ⟨S1024, .f32⟩
  | .hbm, ⟨78, _⟩ => ⟨S_, .f32⟩
  | .hbm, ⟨79, _⟩ => ⟨S1024, .f32⟩
  | .hbm, ⟨80, _⟩ => ⟨S1024, .f32⟩
  | .hbm, ⟨81, _⟩ => ⟨S_, .f32⟩
  | .hbm, ⟨82, _⟩ => ⟨S1024, .f32⟩
  | .hbm, ⟨83, _⟩ => ⟨S1024, .f32⟩
  | .hbm, ⟨84, _⟩ => ⟨S1024, .f32⟩
  | .hbm, ⟨85, _⟩ => ⟨S1024, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S16x64x32x32, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_2 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_3 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_4 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v35 : Ref sig .tc := ⟨.hbm, 75, rfl⟩
abbrev main_cst_5 : Ref sig .tc := ⟨.hbm, 76, rfl⟩
abbrev main_v36 : Ref sig .tc := ⟨.hbm, 77, rfl⟩
abbrev main_cst_6 : Ref sig .tc := ⟨.hbm, 78, rfl⟩
abbrev main_v37 : Ref sig .tc := ⟨.hbm, 79, rfl⟩
abbrev main_v38 : Ref sig .tc := ⟨.hbm, 80, rfl⟩
abbrev main_cst_7 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_8 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩

abbrev nD : Nat := 1
abbrev τ : Topo := Topo.v7x

variable {F : FTy → Type} [FloatOps F]
-- ==== Proof.KernelSteps.lean ====
/- What one grid point of the kernel leaves in its output block, its counts and its table, as functions of the
   blocks it reads. -/
module

public import proofs.«01_k».proof.Proof.Gen.KernelIdeal.Frame
public import Idealize.ShloMosaic.Lib.Pipeline.Value
public import Idealize.ShloMosaic.Lib.Pointwise
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

/-- The zero offsets of a plane. -/
theorem hz : (![0, 0] : Fin 2 → Nat) = fun _ => 0 := funext fun a => by fin_cases a <;> rfl

/-- One image of a block of four. -/
def slab (x : Vec F S4x64x1024 .f32) (k : Fin 4) : Vec F S1x64x1024 .f32 := fun j => x (ix3 k (j 1) (j 2))

/-- A load of one image reads that image. -/
theorem ld_slab (x : Vec F S4x64x1024 .f32) (k : Fin 4) {off : Fin S4x64x1024.rank → Nat} (h : off = ![k.val, 0, 0])
    (inb : ∀ a, off a + (![1, 64, 1024] : Fin S4x64x1024.rank → Nat) a ≤ S4x64x1024.size a) :
    View.ld x (Rect.unit (s := S4x64x1024) off ![1, 64, 1024] inb) = slab x k := by
  subst h
  funext j
  refine congrArg x (funext fun a => Fin.ext ?_)
  have h0 : (j 0).val = 0 := Nat.lt_one_iff.mp (j 0).isLt
  match a with
  | ⟨0, _⟩ => show k.val + 1 * (j 0).val = k.val; omega
  | ⟨1, _⟩ => show 0 + 1 * (j 1).val = (j 1).val; omega
  | ⟨2, _⟩ => show 0 + 1 * (j 2).val = (j 2).val; omega

/-- The four images of a block side by side. -/
def beside (x : Vec F S4x64x1024 .f32) : FVec F S64x4096 .f32 := k0_pay6 (slab x 0) (slab x 1) (slab x 2) (slab x 3)
/-- Of each token, the least over the codes of `|c|² - 2 x·c`. -/
def least (w : Vec F S1024x65 .f32) (x : Vec F S4x64x1024 .f32) : FVec F S1x4096 .f32 :=
  k0_pay7 w (slab x 0) (slab x 1) (slab x 2) (slab x 3)
/-- Of each code and token, `|c|² - 2 x·c`. -/
def scores (w : Vec F S1024x65 .f32) (x : Vec F S4x64x1024 .f32) : FVec F S1024x4096 .f32 :=
  k0_pay8 w (slab x 0) (slab x 1) (slab x 2) (slab x 3)
/-- Of each token, its squared distance to the nearest code. -/
def dist2 (w : Vec F S1024x65 .f32) (x : Vec F S4x64x1024 .f32) : FVec F S1x4096 .f32 :=
  k0_pay9 w (slab x 0) (slab x 1) (slab x 2) (slab x 3)
/-- The moved tokens of the block, side by side. -/
def movedBeside (w : Vec F S1024x65 .f32) (x rv : Vec F S4x64x1024 .f32) : FVec F S64x4096 .f32 :=
  k0_pay11 (beside x) (dist2 w x) k0_pay10 (slab rv 0) (slab rv 1) (slab rv 2) (slab rv 3)
/-- The block of moved tokens a point writes. -/
def stepOut (w : Vec F S1024x65 .f32) (x rv : Vec F S4x64x1024 .f32) : Vec F S4x64x1024 .f32 :=
  fun j => movedBeside w x rv (ix2 (j 1) ⟨1024 * (j 0).val + (j 2).val, by
    have h0 : (j 0).val < 4 := (j 0).isLt
    have h2 : (j 2).val < 1024 := (j 2).isLt
    omega⟩)
/-- The counts a point leaves over the counts it finds. -/
def stepCounts (w : Vec F S1024x65 .f32) (x : Vec F S4x64x1024 .f32) (n : Vec F S1024x1 .f32) : FVec F S1024x1 .f32 :=
  k0_pay3 (least w x) (scores w x) n

/-- A cut of the side-by-side tokens, as one image. -/
theorem cut_apply (v : FVec F S64x4096 .f32) (k : Fin 4) {off : Fin S64x4096.rank → Nat} (h : off = ![0, 1024 * k.val])
    (hs : S64x4096.Slices off S64x1024) (j : S1x64x1024.Idx) :
    shapeCast S1x64x1024 (extractStridedSlice S64x1024 off v hs) shapeCasts_S64x1024_S1x64x1024 j
      = v (ix2 (j 1) ⟨1024 * k.val + (j 2).val, by
          have h0 : k.val < 4 := k.isLt
          have h2 : (j 2).val < 1024 := (j 2).isLt
          omega⟩) := by
  subst h
  have h0 : (j 0).val = 0 := Nat.lt_one_iff.mp (j 0).isLt
  refine (shapeCast_apply _ _ j (ix2 (n0 := 64) (n1 := 1024) (j 1) (j 2)) ?_).trans
    (extractStridedSlice_apply _ _ _ _ _ ?_)
  · rw [Shape.rowMajor_val_two, Shape.rowMajor_val_three]
    show (j 1).val * 1024 + (j 2).val = ((j 0).val * 64 + (j 1).val) * 1024 + (j 2).val
    omega
  · intro a
    match a with
    | ⟨0, _⟩ => show (j 1).val = 0 + (j 1).val; omega
    | ⟨1, _⟩ => show 1024 * k.val + (j 2).val = 1024 * k.val + (j 2).val; rfl

/-- Four stores, one per image, of cuts of one side-by-side array leave the block that array names. -/
theorem canon_cuts (G : Vec F S4x64x1024 .f32) (p3 p2 p1 p0 : FVec F S1x64x1024 .f32)
    (e3 : ∀ j, p3 j = G (ix3 3 (j 1) (j 2))) (e2 : ∀ j, p2 j = G (ix3 2 (j 1) (j 2)))
    (e1 : ∀ j, p1 j = G (ix3 1 (j 1) (j 2))) (e0 : ∀ j, p0 j = G (ix3 0 (j 1) (j 2)))
    (hc : ∀ y : S4x64x1024.Idx, ∃ pc ∈ ([⟨Rect.unit ![3, 0, 0] S1x64x1024.size inb_S4x64x1024_S1x64x1024_3_0_0, p3⟩,
        ⟨Rect.unit ![2, 0, 0] S1x64x1024.size inb_S4x64x1024_S1x64x1024_2_0_0, p2⟩,
        ⟨Rect.unit ![1, 0, 0] S1x64x1024.size inb_S4x64x1024_S1x64x1024_1_0_0, p1⟩,
        ⟨Rect.unit ![0, 0, 0] S1x64x1024.size inb_S4x64x1024_S1x64x1024_0_0_0, p0⟩] : List (View.Piece (Elt F) S4x64x1024 .f32)), y ∈ pc.1.set) :
    View.canon ([⟨Rect.unit ![3, 0, 0] S1x64x1024.size inb_S4x64x1024_S1x64x1024_3_0_0, p3⟩,
        ⟨Rect.unit ![2, 0, 0] S1x64x1024.size inb_S4x64x1024_S1x64x1024_2_0_0, p2⟩,
        ⟨Rect.unit ![1, 0, 0] S1x64x1024.size inb_S4x64x1024_S1x64x1024_1_0_0, p1⟩,
        ⟨Rect.unit ![0, 0, 0] S1x64x1024.size inb_S4x64x1024_S1x64x1024_0_0_0, p0⟩] : List (View.Piece (Elt F) S4x64x1024 .f32)) = G := by
  have hs : ∀ (k : Fin 4) (inb) (j : S1x64x1024.Idx), G ((Rect.unit (s := S4x64x1024) ![k.val, 0, 0] S1x64x1024.size inb).emb j)
      = G (ix3 k (j 1) (j 2)) := fun k inb j => congrFun (ld_slab G k rfl inb) j
  funext y
  refine View.canon_apply_of_pieces G _ (fun p hp j => ?_) y (hc y)
  simp only [List.mem_cons, List.not_mem_nil, or_false] at hp
  rcases hp with rfl | rfl | rfl | rfl
  · exact (e3 j).trans (hs 3 inb_S4x64x1024_S1x64x1024_3_0_0 j).symm
  · exact (e2 j).trans (hs 2 inb_S4x64x1024_S1x64x1024_2_0_0 j).symm
  · exact (e1 j).trans (hs 1 inb_S4x64x1024_S1x64x1024_1_0_0 j).symm
  · exact (e0 j).trans (hs 0 inb_S4x64x1024_S1x64x1024_0_0_0 j).symm

/-- The counts the first point leaves. -/
theorem counts_A (c : Dev nD) (i : grid0.Coords) (a1 : Memref sig .tc .vmem S4x64x1024 .f32) (h1 : a1.IsWhole)
    (a2 : Memref sig .tc .vmem S1024x64 .f32) (h2 : a2.IsWhole) (a3 : Memref sig .tc .vmem S4x64x1024 .f32) (h3 : a3.IsWhole)
    (a4 : Memref sig .tc .vmem S4x64x1024 .f32) (h4 : a4.IsWhole) (a5 : Memref sig .tc .vmem S1x1 .f32) (h5 : a5.IsWhole)
    (a6 : Memref sig .tc .vmem S1024x1 .f32) (h6 : a6.IsWhole) (a7 : Memref sig .tc .vmem S1024x65 .f32) (h7 : a7.IsWhole) (hc0 : cond0_0 i) (hc1 : cond0_1 i) (hc2 : ¬cond0_2 i) (x0 : Vec F S4x64x1024 .f32) (x1 : Vec F S1024x64 .f32) (x2 : Vec F S4x64x1024 .f32) :
    sout0_A_0 c i a1 h1 a2 h2 a3 h3 a4 h4 a5 h5 a6 h6 a7 h7 hc0 hc1 hc2 x0 x1 x2 = stepCounts (k0_pay5 x1) x0 k0_pay2 := by
  unfold sout0_A_0
  rw [View.read_writes_eq_canon _ _ _ (scover0_A_0 c i a1 h1 a2 h2 a3 h3 a4 h4 a5 h5 a6 h6 a7 h7 hc0 hc1 hc2 x0 x1 x2)]
  unfold kernelRun0_A
  dsimp only
  sl_unfold_words
  rw [View.canon_cons_unit_zero (S := S1024x1) hz]
  simp only [View.readAt_eq_ld, h1.read_unread, h2.read_unread, h3.read_unread, h6.read_unread, h7.read_unread,
    View.ld_unit_zero (S := S1024x64) hz, View.ld_unit_zero (S := S1024x1) hz, View.ld_unit_zero (S := S1024x65) hz,
    View.readCov_unit_zero (S := S1024x65) _ hz, View.readCov_unit_zero (S := S1024x1) _ hz]
  rw [ld_slab x0 0 (off := ![0, 0, 0]) rfl, ld_slab x0 1 (off := ![1, 0, 0]) rfl,
      ld_slab x0 2 (off := ![2, 0, 0]) rfl, ld_slab x0 3 (off := ![3, 0, 0]) rfl]
  rfl
/-- The block the first point writes. -/
theorem out_A (c : Dev nD) (i : grid0.Coords) (a1 : Memref sig .tc .vmem S4x64x1024 .f32) (h1 : a1.IsWhole)
    (a2 : Memref sig .tc .vmem S1024x64 .f32) (h2 : a2.IsWhole) (a3 : Memref sig .tc .vmem S4x64x1024 .f32) (h3 : a3.IsWhole)
    (a4 : Memref sig .tc .vmem S4x64x1024 .f32) (h4 : a4.IsWhole) (a5 : Memref sig .tc .vmem S1x1 .f32) (h5 : a5.IsWhole)
    (a6 : Memref sig .tc .vmem S1024x1 .f32) (h6 : a6.IsWhole) (a7 : Memref sig .tc .vmem S1024x65 .f32) (h7 : a7.IsWhole) (hc0 : cond0_0 i) (hc1 : cond0_1 i) (hc2 : ¬cond0_2 i) (x0 : Vec F S4x64x1024 .f32) (x1 : Vec F S1024x64 .f32) (x2 : Vec F S4x64x1024 .f32) :
    out0_A_3 c i a1 h1 a2 h2 a3 h3 a4 h4 a5 h5 a6 h6 a7 h7 hc0 hc1 hc2 x0 x1 x2 = stepOut (k0_pay5 x1) x0 x2 := by
  unfold out0_A_3
  rw [View.read_writes_eq_canon _ _ _ (cover0_A_3 c i a1 h1 a2 h2 a3 h3 a4 h4 a5 h5 a6 h6 a7 h7 hc0 hc1 hc2 x0 x1 x2)]
  have hcov := cover0_A_3 c i a1 h1 a2 h2 a3 h3 a4 h4 a5 h5 a6 h6 a7 h7 hc0 hc1 hc2 x0 x1 x2
  unfold kernelRun0_A at hcov ⊢
  dsimp only at hcov ⊢
  sl_unfold_words
  refine canon_cuts _ _ _ _ _ (fun j => ?_) (fun j => ?_) (fun j => ?_) (fun j => ?_) hcov
  all_goals
    simp only [View.readAt_eq_ld, h1.read_unread, h2.read_unread, h3.read_unread, h6.read_unread, h7.read_unread,
      View.ld_unit_zero (S := S1024x64) hz, View.ld_unit_zero (S := S1024x1) hz, View.ld_unit_zero (S := S1024x65) hz,
      View.readCov_unit_zero (S := S1024x65) _ hz, View.readCov_unit_zero (S := S1024x1) _ hz]
    rw [ld_slab x0 0 (off := ![0, 0, 0]) rfl, ld_slab x0 1 (off := ![1, 0, 0]) rfl,
      ld_slab x0 2 (off := ![2, 0, 0]) rfl, ld_slab x0 3 (off := ![3, 0, 0]) rfl]
    rw [ld_slab x2 0 (off := ![0, 0, 0]) rfl, ld_slab x2 1 (off := ![1, 0, 0]) rfl,
      ld_slab x2 2 (off := ![2, 0, 0]) rfl, ld_slab x2 3 (off := ![3, 0, 0]) rfl]
  · exact cut_apply (movedBeside (k0_pay5 x1) x0 x2) 3 rfl slices_S64x4096_o0_3072_S64x1024 j
  · exact cut_apply (movedBeside (k0_pay5 x1) x0 x2) 2 rfl slices_S64x4096_o0_2048_S64x1024 j
  · exact cut_apply (movedBeside (k0_pay5 x1) x0 x2) 1 rfl slices_S64x4096_o0_1024_S64x1024 j
  · exact cut_apply (movedBeside (k0_pay5 x1) x0 x2) 0 rfl slices_S64x4096_o0_0_S64x1024 j

/-- The counts a middle point leaves. -/
theorem counts_B (c : Dev nD) (i : grid0.Coords) (a1 : Memref sig .tc .vmem S4x64x1024 .f32) (h1 : a1.IsWhole)
    (a2 : Memref sig .tc .vmem S1024x64 .f32) (h2 : a2.IsWhole) (a3 : Memref sig .tc .vmem S4x64x1024 .f32) (h3 : a3.IsWhole)
    (a4 : Memref sig .tc .vmem S4x64x1024 .f32) (h4 : a4.IsWhole) (a5 : Memref sig .tc .vmem S1x1 .f32) (h5 : a5.IsWhole)
    (a6 : Memref sig .tc .vmem S1024x1 .f32) (h6 : a6.IsWhole) (a7 : Memref sig .tc .vmem S1024x65 .f32) (h7 : a7.IsWhole) (hc0 : ¬cond0_0 i) (hc1 : ¬cond0_1 i) (hc2 : ¬cond0_2 i) (x0 : Vec F S4x64x1024 .f32) (x1 : Vec F S1024x64 .f32) (x2 : Vec F S4x64x1024 .f32) (xs0 : Vec F S1024x1 .f32) (xs1 : Vec F S1024x65 .f32) :
    sout0_B_0 c i a1 h1 a2 h2 a3 h3 a4 h4 a5 h5 a6 h6 a7 h7 hc0 hc1 hc2 x0 x1 x2 xs0 xs1 = stepCounts xs1 x0 xs0 := by
  unfold sout0_B_0
  rw [View.read_writes_eq_canon _ _ _ (scover0_B_0 c i a1 h1 a2 h2 a3 h3 a4 h4 a5 h5 a6 h6 a7 h7 hc0 hc1 hc2 x0 x1 x2 xs0 xs1)]
  unfold kernelRun0_B
  dsimp only
  sl_unfold_words
  rw [View.canon_cons_unit_zero (S := S1024x1) hz]
  simp only [View.readAt_eq_ld, h1.read_unread, h2.read_unread, h3.read_unread, h6.read_unread, h7.read_unread,
    View.ld_unit_zero (S := S1024x64) hz, View.ld_unit_zero (S := S1024x1) hz, View.ld_unit_zero (S := S1024x65) hz,
    View.readCov_unit_zero (S := S1024x65) _ hz, View.readCov_unit_zero (S := S1024x1) _ hz]
  rw [ld_slab x0 0 (off := ![0, 0, 0]) rfl, ld_slab x0 1 (off := ![1, 0, 0]) rfl,
      ld_slab x0 2 (off := ![2, 0, 0]) rfl, ld_slab x0 3 (off := ![3, 0, 0]) rfl]
  rfl
/-- The block a middle point writes. -/
theorem out_B (c : Dev nD) (i : grid0.Coords) (a1 : Memref sig .tc .vmem S4x64x1024 .f32) (h1 : a1.IsWhole)
    (a2 : Memref sig .tc .vmem S1024x64 .f32) (h2 : a2.IsWhole) (a3 : Memref sig .tc .vmem S4x64x1024 .f32) (h3 : a3.IsWhole)
    (a4 : Memref sig .tc .vmem S4x64x1024 .f32) (h4 : a4.IsWhole) (a5 : Memref sig .tc .vmem S1x1 .f32) (h5 : a5.IsWhole)
    (a6 : Memref sig .tc .vmem S1024x1 .f32) (h6 : a6.IsWhole) (a7 : Memref sig .tc .vmem S1024x65 .f32) (h7 : a7.IsWhole) (hc0 : ¬cond0_0 i) (hc1 : ¬cond0_1 i) (hc2 : ¬cond0_2 i) (x0 : Vec F S4x64x1024 .f32) (x1 : Vec F S1024x64 .f32) (x2 : Vec F S4x64x1024 .f32) (xs0 : Vec F S1024x1 .f32) (xs1 : Vec F S1024x65 .f32) :
    out0_B_3 c i a1 h1 a2 h2 a3 h3 a4 h4 a5 h5 a6 h6 a7 h7 hc0 hc1 hc2 x0 x1 x2 xs0 xs1 = stepOut xs1 x0 x2 := by
  unfold out0_B_3
  rw [View.read_writes_eq_canon _ _ _ (cover0_B_3 c i a1 h1 a2 h2 a3 h3 a4 h4 a5 h5 a6 h6 a7 h7 hc0 hc1 hc2 x0 x1 x2 xs0 xs1)]
  have hcov := cover0_B_3 c i a1 h1 a2 h2 a3 h3 a4 h4 a5 h5 a6 h6 a7 h7 hc0 hc1 hc2 x0 x1 x2 xs0 xs1
  unfold kernelRun0_B at hcov ⊢
  dsimp only at hcov ⊢
  sl_unfold_words
  refine canon_cuts _ _ _ _ _ (fun j => ?_) (fun j => ?_) (fun j => ?_) (fun j => ?_) hcov
  all_goals
    simp only [View.readAt_eq_ld, h1.read_unread, h2.read_unread, h3.read_unread, h6.read_unread, h7.read_unread,
      View.ld_unit_zero (S := S1024x64) hz, View.ld_unit_zero (S := S1024x1) hz, View.ld_unit_zero (S := S1024x65) hz,
      View.readCov_unit_zero (S := S1024x65) _ hz, View.readCov_unit_zero (S := S1024x1) _ hz]
    rw [ld_slab x0 0 (off := ![0, 0, 0]) rfl, ld_slab x0 1 (off := ![1, 0, 0]) rfl,
      ld_slab x0 2 (off := ![2, 0, 0]) rfl, ld_slab x0 3 (off := ![3, 0, 0]) rfl]
    rw [ld_slab x2 0 (off := ![0, 0, 0]) rfl, ld_slab x2 1 (off := ![1, 0, 0]) rfl,
      ld_slab x2 2 (off := ![2, 0, 0]) rfl, ld_slab x2 3 (off := ![3, 0, 0]) rfl]
  · exact cut_apply (movedBeside xs1 x0 x2) 3 rfl slices_S64x4096_o0_3072_S64x1024 j
  · exact cut_apply (movedBeside xs1 x0 x2) 2 rfl slices_S64x4096_o0_2048_S64x1024 j
  · exact cut_apply (movedBeside xs1 x0 x2) 1 rfl slices_S64x4096_o0_1024_S64x1024 j
  · exact cut_apply (movedBeside xs1 x0 x2) 0 rfl slices_S64x4096_o0_0_S64x1024 j

/-- The counts the last point leaves. -/
theorem counts_C (c : Dev nD) (i : grid0.Coords) (a1 : Memref sig .tc .vmem S4x64x1024 .f32) (h1 : a1.IsWhole)
    (a2 : Memref sig .tc .vmem S1024x64 .f32) (h2 : a2.IsWhole) (a3 : Memref sig .tc .vmem S4x64x1024 .f32) (h3 : a3.IsWhole)
    (a4 : Memref sig .tc .vmem S4x64x1024 .f32) (h4 : a4.IsWhole) (a5 : Memref sig .tc .vmem S1x1 .f32) (h5 : a5.IsWhole)
    (a6 : Memref sig .tc .vmem S1024x1 .f32) (h6 : a6.IsWhole) (a7 : Memref sig .tc .vmem S1024x65 .f32) (h7 : a7.IsWhole) (hc0 : ¬cond0_0 i) (hc1 : ¬cond0_1 i) (hc2 : cond0_2 i) (x0 : Vec F S4x64x1024 .f32) (x1 : Vec F S1024x64 .f32) (x2 : Vec F S4x64x1024 .f32) (xs0 : Vec F S1024x1 .f32) (xs1 : Vec F S1024x65 .f32) :
    sout0_C_0 c i a1 h1 a2 h2 a3 h3 a4 h4 a5 h5 a6 h6 a7 h7 hc0 hc1 hc2 x0 x1 x2 xs0 xs1 = stepCounts xs1 x0 xs0 := by
  unfold sout0_C_0
  rw [View.read_writes_eq_canon _ _ _ (scover0_C_0 c i a1 h1 a2 h2 a3 h3 a4 h4 a5 h5 a6 h6 a7 h7 hc0 hc1 hc2 x0 x1 x2 xs0 xs1)]
  unfold kernelRun0_C
  dsimp only
  sl_unfold_words
  rw [View.canon_cons_unit_zero (S := S1024x1) hz]
  simp only [View.readAt_eq_ld, h1.read_unread, h2.read_unread, h3.read_unread, h6.read_unread, h7.read_unread,
    View.ld_unit_zero (S := S1024x64) hz, View.ld_unit_zero (S := S1024x1) hz, View.ld_unit_zero (S := S1024x65) hz,
    View.readCov_unit_zero (S := S1024x65) _ hz, View.readCov_unit_zero (S := S1024x1) _ hz]
  rw [ld_slab x0 0 (off := ![0, 0, 0]) rfl, ld_slab x0 1 (off := ![1, 0, 0]) rfl,
      ld_slab x0 2 (off := ![2, 0, 0]) rfl, ld_slab x0 3 (off := ![3, 0, 0]) rfl]
  rfl
/-- The block the last point writes. -/
theorem out_C (c : Dev nD) (i : grid0.Coords) (a1 : Memref sig .tc .vmem S4x64x1024 .f32) (h1 : a1.IsWhole)
    (a2 : Memref sig .tc .vmem S1024x64 .f32) (h2 : a2.IsWhole) (a3 : Memref sig .tc .vmem S4x64x1024 .f32) (h3 : a3.IsWhole)
    (a4 : Memref sig .tc .vmem S4x64x1024 .f32) (h4 : a4.IsWhole) (a5 : Memref sig .tc .vmem S1x1 .f32) (h5 : a5.IsWhole)
    (a6 : Memref sig .tc .vmem S1024x1 .f32) (h6 : a6.IsWhole) (a7 : Memref sig .tc .vmem S1024x65 .f32) (h7 : a7.IsWhole) (hc0 : ¬cond0_0 i) (hc1 : ¬cond0_1 i) (hc2 : cond0_2 i) (x0 : Vec F S4x64x1024 .f32) (x1 : Vec F S1024x64 .f32) (x2 : Vec F S4x64x1024 .f32) (xs0 : Vec F S1024x1 .f32) (xs1 : Vec F S1024x65 .f32) :
    out0_C_3 c i a1 h1 a2 h2 a3 h3 a4 h4 a5 h5 a6 h6 a7 h7 hc0 hc1 hc2 x0 x1 x2 xs0 xs1 = stepOut xs1 x0 x2 := by
  unfold out0_C_3
  rw [View.read_writes_eq_canon _ _ _ (cover0_C_3 c i a1 h1 a2 h2 a3 h3 a4 h4 a5 h5 a6 h6 a7 h7 hc0 hc1 hc2 x0 x1 x2 xs0 xs1)]
  have hcov := cover0_C_3 c i a1 h1 a2 h2 a3 h3 a4 h4 a5 h5 a6 h6 a7 h7 hc0 hc1 hc2 x0 x1 x2 xs0 xs1
  unfold kernelRun0_C at hcov ⊢
  dsimp only at hcov ⊢
  sl_unfold_words
  refine canon_cuts _ _ _ _ _ (fun j => ?_) (fun j => ?_) (fun j => ?_) (fun j => ?_) hcov
  all_goals
    simp only [View.readAt_eq_ld, h1.read_unread, h2.read_unread, h3.read_unread, h6.read_unread, h7.read_unread,
      View.ld_unit_zero (S := S1024x64) hz, View.ld_unit_zero (S := S1024x1) hz, View.ld_unit_zero (S := S1024x65) hz,
      View.readCov_unit_zero (S := S1024x65) _ hz, View.readCov_unit_zero (S := S1024x1) _ hz]
    rw [ld_slab x0 0 (off := ![0, 0, 0]) rfl, ld_slab x0 1 (off := ![1, 0, 0]) rfl,
      ld_slab x0 2 (off := ![2, 0, 0]) rfl, ld_slab x0 3 (off := ![3, 0, 0]) rfl]
    rw [ld_slab x2 0 (off := ![0, 0, 0]) rfl, ld_slab x2 1 (off := ![1, 0, 0]) rfl,
      ld_slab x2 2 (off := ![2, 0, 0]) rfl, ld_slab x2 3 (off := ![3, 0, 0]) rfl]
  · exact cut_apply (movedBeside xs1 x0 x2) 3 rfl slices_S64x4096_o0_3072_S64x1024 j
  · exact cut_apply (movedBeside xs1 x0 x2) 2 rfl slices_S64x4096_o0_2048_S64x1024 j
  · exact cut_apply (movedBeside xs1 x0 x2) 1 rfl slices_S64x4096_o0_1024_S64x1024 j
  · exact cut_apply (movedBeside xs1 x0 x2) 0 rfl slices_S64x4096_o0_0_S64x1024 j

/-- The table of codes and their squared lengths the first point leaves. -/
theorem table_A (c : Dev nD) (i : grid0.Coords) (a1 : Memref sig .tc .vmem S4x64x1024 .f32) (h1 : a1.IsWhole)
    (a2 : Memref sig .tc .vmem S1024x64 .f32) (h2 : a2.IsWhole) (a3 : Memref sig .tc .vmem S4x64x1024 .f32) (h3 : a3.IsWhole)
    (a4 : Memref sig .tc .vmem S4x64x1024 .f32) (h4 : a4.IsWhole) (a5 : Memref sig .tc .vmem S1x1 .f32) (h5 : a5.IsWhole)
    (a6 : Memref sig .tc .vmem S1024x1 .f32) (h6 : a6.IsWhole) (a7 : Memref sig .tc .vmem S1024x65 .f32) (h7 : a7.IsWhole) (hc0 : cond0_0 i) (hc1 : cond0_1 i) (hc2 : ¬cond0_2 i) (x0 : Vec F S4x64x1024 .f32) (x1 : Vec F S1024x64 .f32) (x2 : Vec F S4x64x1024 .f32) :
    sout0_A_1 c i a1 h1 a2 h2 a3 h3 a4 h4 a5 h5 a6 h6 a7 h7 hc0 hc1 hc2 x0 x1 x2 = k0_pay5 x1 := by
  unfold sout0_A_1
  rw [View.read_writes_eq_canon _ _ _ (scover0_A_1 c i a1 h1 a2 h2 a3 h3 a4 h4 a5 h5 a6 h6 a7 h7 hc0 hc1 hc2 x0 x1 x2)]
  unfold kernelRun0_A
  dsimp only
  sl_unfold_words
  rw [View.canon_unit_zero (S := S1024x65) hz]
  simp only [View.readAt_eq_ld, h1.read_unread, h2.read_unread, h3.read_unread, h6.read_unread, h7.read_unread,
    View.ld_unit_zero (S := S1024x64) hz, View.ld_unit_zero (S := S1024x1) hz, View.ld_unit_zero (S := S1024x65) hz,
    View.readCov_unit_zero (S := S1024x65) _ hz, View.readCov_unit_zero (S := S1024x1) _ hz]
/-- The perplexity the last point writes. -/
theorem perp_C (c : Dev nD) (i : grid0.Coords) (a1 : Memref sig .tc .vmem S4x64x1024 .f32) (h1 : a1.IsWhole)
    (a2 : Memref sig .tc .vmem S1024x64 .f32) (h2 : a2.IsWhole) (a3 : Memref sig .tc .vmem S4x64x1024 .f32) (h3 : a3.IsWhole)
    (a4 : Memref sig .tc .vmem S4x64x1024 .f32) (h4 : a4.IsWhole) (a5 : Memref sig .tc .vmem S1x1 .f32) (h5 : a5.IsWhole)
    (a6 : Memref sig .tc .vmem S1024x1 .f32) (h6 : a6.IsWhole) (a7 : Memref sig .tc .vmem S1024x65 .f32) (h7 : a7.IsWhole) (hc0 : ¬cond0_0 i) (hc1 : ¬cond0_1 i) (hc2 : cond0_2 i) (x0 : Vec F S4x64x1024 .f32) (x1 : Vec F S1024x64 .f32) (x2 : Vec F S4x64x1024 .f32) (xs0 : Vec F S1024x1 .f32) (xs1 : Vec F S1024x65 .f32) :
    out0_C_4 c i a1 h1 a2 h2 a3 h3 a4 h4 a5 h5 a6 h6 a7 h7 hc0 hc1 hc2 x0 x1 x2 xs0 xs1 = k0_pay4 (stepCounts xs1 x0 xs0) := by
  unfold out0_C_4
  rw [View.read_writes_eq_canon _ _ _ (cover0_C_4 c i a1 h1 a2 h2 a3 h3 a4 h4 a5 h5 a6 h6 a7 h7 hc0 hc1 hc2 x0 x1 x2 xs0 xs1)]
  unfold kernelRun0_C
  dsimp only
  sl_unfold_words
  rw [View.canon_unit_zero (S := S1x1) hz]
  simp only [View.readAt_eq_ld, h1.read_unread, h2.read_unread, h3.read_unread, h6.read_unread, h7.read_unread,
    View.ld_unit_zero (S := S1024x64) hz, View.ld_unit_zero (S := S1024x1) hz, View.ld_unit_zero (S := S1024x65) hz,
    View.readCov_unit_zero (S := S1024x65) _ hz, View.readCov_unit_zero (S := S1024x1) _ hz]
  rw [ld_slab x0 0 (off := ![0, 0, 0]) rfl, ld_slab x0 1 (off := ![1, 0, 0]) rfl,
      ld_slab x0 2 (off := ![2, 0, 0]) rfl, ld_slab x0 3 (off := ![3, 0, 0]) rfl]
  rfl

end Cert.KernelIdeal.Value

end
-- ==== Proof.KernelArrays.lean ====
/- The kernel's two result arrays after a run, as functions of its three arguments: the points' blocks and counts in
   order, and the reshapes around the call. -/
module

public import proofs.«01_k».proof.Proof.KernelSteps
public import Idealize.ShloMosaic.Lib.StableHlo.Run
public import Idealize.ShloMosaic.Lib.StableHlo.RunRead

@[expose] public section

set_option maxRecDepth 16384

noncomputable section

namespace Cert.KernelIdeal.Value

open Cert.KernelIdeal Cert.KernelIdeal.Gen Idealize.ShloMosaic Idealize.ShloMosaic.TcCoe Idealize.SL.Sem

open Idealize.ShloMosaic.Pipeline (Dat)

variable {F : FTy → Type} [FloatOps F]

/-- The four images of grid point `n`. -/
def imgs (x : Vec F S16x64x1024 .f32) (n : Nat) : Vec F S4x64x1024 .f32 :=
  fun j => x (ix3 ⟨(4 * n + (j 0).val) % 16, Nat.mod_lt _ (by omega)⟩ (j 1) (j 2))

/-- The counts after grid point `n`. -/
def countsAt (w : Vec F S1024x65 .f32) (x : Vec F S16x64x1024 .f32) : Nat → FVec F S1024x1 .f32
  | 0 => stepCounts w (imgs x 0) k0_pay2
  | n + 1 => stepCounts w (imgs x (n + 1)) (countsAt w x n)

/-- The moved tokens, image by image. -/
def movedAll (w : Vec F S1024x65 .f32) (x rv : Vec F S16x64x1024 .f32) : Vec F S16x64x1024 .f32 :=
  fun j => stepOut w (imgs x ((j 0).val / 4)) (imgs rv ((j 0).val / 4))
    (ix3 ⟨(j 0).val % 4, Nat.mod_lt _ (by omega)⟩ (j 1) (j 2))

variable (m : (ℓ : Loc nD τ sig) → Buf (Elt F) ℓ) (ρ : Dev nD → PrngReg)

/-- The images' blocks move with the grid point, and the codebook's stays. -/
theorem index_facts : ∀ t : Fin cfg0.N,
    win0_0.index t 0 * win0_0.size 0 = 4 * t.val ∧ win0_0.index t 1 * win0_0.size 1 = 0 ∧ win0_0.index t 2 * win0_0.size 2 = 0
    ∧ win0_2.index t 0 * win0_2.size 0 = 4 * t.val ∧ win0_2.index t 1 * win0_2.size 1 = 0 ∧ win0_2.index t 2 * win0_2.size 2 = 0
    ∧ win0_1.index t 0 * win0_1.size 0 = 0 ∧ win0_1.index t 1 * win0_1.size 1 = 0
    ∧ win0_3.index t 0 * win0_3.size 0 = 4 * t.val ∧ win0_3.index t 1 * win0_3.size 1 = 0 ∧ win0_3.index t 2 * win0_3.size 2 = 0
    ∧ win0_4.index t 0 * win0_4.size 0 = 0 ∧ win0_4.index t 1 * win0_4.size 1 = 0 :=
  (by decide +kernel : ∀ t : Fin grid0.N, _)

/-- The images a point reads. -/
theorem iblk0 (c : Dev nD) (t : Fin cfg0.N) : iblk m c 0 t = imgs (V m c main_v0) t.val := by
  obtain ⟨e0, e1, e2, -⟩ := index_facts t
  have hN : t.val < 4 := lt_of_lt_of_eq t.isLt (show cfg0.N = 4 from N_0)
  funext j
  have h0 : (j 0).val < 4 := (j 0).isLt
  refine congrArg (V m c main_v0) (funext fun a => Fin.ext ?_)
  match a with
  | ⟨0, _⟩ =>
    show win0_0.index t 0 * win0_0.size 0 + 1 * (j 0).val = (4 * t.val + (j 0).val) % 16
    rw [e0]; omega
  | ⟨1, _⟩ => show win0_0.index t 1 * win0_0.size 1 + 1 * (j 1).val = (j 1).val; rw [e1]; omega
  | ⟨2, _⟩ => show win0_0.index t 2 * win0_0.size 2 + 1 * (j 2).val = (j 2).val; rw [e2]; omega

/-- The random images a point reads. -/
theorem iblk2 (c : Dev nD) (t : Fin cfg0.N) : iblk m c 2 t = imgs (V m c main_v2) t.val := by
  obtain ⟨-, -, -, e0, e1, e2, -⟩ := index_facts t
  have hN : t.val < 4 := lt_of_lt_of_eq t.isLt (show cfg0.N = 4 from N_0)
  funext j
  have h0 : (j 0).val < 4 := (j 0).isLt
  refine congrArg (V m c main_v2) (funext fun a => Fin.ext ?_)
  match a with
  | ⟨0, _⟩ =>
    show win0_2.index t 0 * win0_2.size 0 + 1 * (j 0).val = (4 * t.val + (j 0).val) % 16
    rw [e0]; omega
  | ⟨1, _⟩ => show win0_2.index t 1 * win0_2.size 1 + 1 * (j 1).val = (j 1).val; rw [e1]; omega
  | ⟨2, _⟩ => show win0_2.index t 2 * win0_2.size 2 + 1 * (j 2).val = (j 2).val; rw [e2]; omega

/-- Every point reads the whole codebook. -/
theorem iblk1 (c : Dev nD) (t : Fin cfg0.N) : iblk m c 1 t = m ((c : Thread nD τ).loc main_arg1) := by
  obtain ⟨-, -, -, -, -, -, e0, e1, -⟩ := index_facts t
  refine Eq.trans ?_ (V_main_arg1 m c)
  funext j
  refine congrArg (V m c main_arg1) (funext fun a => Fin.ext ?_)
  match a with
  | ⟨0, _⟩ => show win0_1.index t 0 * win0_1.size 0 + 1 * (j 0).val = (j 0).val; rw [e0]; omega
  | ⟨1, _⟩ => show win0_1.index t 1 * win0_1.size 1 + 1 * (j 1).val = (j 1).val; rw [e1]; omega

/-- The table of codes and their squared lengths. -/
abbrev table (c : Dev nD) : FVec F S1024x65 .f32 := k0_pay5 (m ((c : Thread nD τ).loc main_arg1))

/-- What the points leave: the table, the counts so far, and the point's block of moved tokens. -/
theorem outsAt_eq (c : Dev nD) : ∀ (n : Nat) (hn : n < cfg0.N),
    (outsAt0 m c n hn).2.2.2 = table m c ∧ (outsAt0 m c n hn).2.2.1 = countsAt (table m c) (V m c main_v0) n
    ∧ (outsAt0 m c n hn).1 = stepOut (table m c) (imgs (V m c main_v0) n) (imgs (V m c main_v2) n)
  | 0, hn => by
    rw [outsAt0_A m c ⟨0, hn⟩ rfl rfl (fun h => absurd h (by decide : ¬0 % 4 = 3))]
    refine ⟨?_, ?_, ?_⟩
    · rw [table_A, iblk1]
    · rw [counts_A, iblk0, iblk1]; rfl
    · rw [out_A, iblk0, iblk1, iblk2]
  | n + 1, hn => by
    obtain ⟨ih1, ih2, -⟩ := outsAt_eq c n (Nat.lt_of_succ_lt hn)
    have hN : n + 1 < 4 := lt_of_lt_of_eq hn (show cfg0.N = 4 from N_0)
    have h0 : ¬(n + 1) % 4 = 0 := by omega
    by_cases h2 : (n + 1) % 4 = 3
    · rw [outsAt0_C m c ⟨n + 1, hn⟩ h0 h0 h2]
      refine ⟨ih1, ?_, ?_⟩
      · rw [counts_C, iblk0]; exact congrArg₂ (fun w n' => stepCounts w _ n') ih1 ih2
      · rw [out_C, iblk0, iblk2]; exact congrArg (fun w => stepOut w _ _) ih1
    · rw [outsAt0_B m c ⟨n + 1, hn⟩ h0 h0 h2]
      refine ⟨ih1, ?_, ?_⟩
      · rw [counts_B, iblk0]; exact congrArg₂ (fun w n' => stepCounts w _ n') ih1 ih2
      · rw [out_B, iblk0, iblk2]; exact congrArg (fun w => stepOut w _ _) ih1

/-- The perplexity the last point leaves. -/
theorem perpAt_eq (c : Dev nD) (hn : 3 < cfg0.N) :
    (outsAt0 m c 3 hn).2.1 = k0_pay4 (countsAt (table m c) (V m c main_v0) 3) := by
  obtain ⟨ih1, ih2, -⟩ := outsAt_eq m c 2 (Nat.lt_of_succ_lt hn)
  rw [outsAt0_C m c ⟨3, hn⟩ (fun h => absurd h (by decide : ¬3 % 4 = 0)) (fun h => absurd h (by decide : ¬3 % 4 = 0)) rfl]
  dsimp only
  rw [perp_C, iblk0]
  exact congrArg₂ (fun w n' => k0_pay4 (stepCounts w _ n')) ih1 ih2

/-- A moved token, by the grid point that writes it. -/
theorem movedAll_at (w : Vec F S1024x65 .f32) (x rv : Vec F S16x64x1024 .f32) (i : S16x64x1024.Idx) (n : Nat)
    (j : S4x64x1024.Idx) (h0 : (i 0).val = 4 * n + (j 0).val) (h1 : (i 1).val = (j 1).val) (h2 : (i 2).val = (j 2).val) :
    movedAll w x rv i = stepOut w (imgs x n) (imgs rv n) j := by
  have hj : (j 0).val < 4 := (j 0).isLt
  have e : (i 0).val / 4 = n := by omega
  show stepOut w (imgs x ((i 0).val / 4)) (imgs rv ((i 0).val / 4)) _ = _
  rw [e]
  refine congrArg (stepOut w (imgs x n) (imgs rv n)) (funext fun a => Fin.ext ?_)
  match a with
  | ⟨0, _⟩ => show (i 0).val % 4 = (j 0).val; omega
  | ⟨1, _⟩ => exact h1
  | ⟨2, _⟩ => exact h2

/-- The moved tokens' array after the run. -/
theorem final3 (c : Dev nD) :
    (dats m 0 c).arrAt 3 cfg0.N = movedAll (table m c) (V m c main_v0) (V m c main_v2) := by
  refine (dats m 0 c).arrAt_eq_of_cover 3 _ (fun t _ => ?_) (fun i => ?_)
  · show (cfg0.win 3).cut (grid0.coords t) ((dats m 0 c).after 3 t) = _
    rw [after0_3, (outsAt_eq m c t.val t.isLt).2.2]
    obtain ⟨-, -, -, -, -, -, -, -, e0, e1, e2, -⟩ := index_facts t
    funext j
    refine (movedAll_at _ _ _ ((win0_3.blk t).view.emb j) t.val j ?_ ?_ ?_).symm
    · show win0_3.index t 0 * win0_3.size 0 + 1 * (j 0).val = _; rw [e0]; omega
    · show win0_3.index t 1 * win0_3.size 1 + 1 * (j 1).val = _; rw [e1]; omega
    · show win0_3.index t 2 * win0_3.size 2 + 1 * (j 2).val = _; rw [e2]; omega
  · have h0 : (i 0 : Nat) < 16 := (i 0).isLt
    have h1 : (i 1 : Nat) < 64 := (i 1).isLt
    have h2 : (i 2 : Nat) < 1024 := (i 2).isLt
    have hN : cfg0.N = 4 := N_0
    have ht : (i 0 : Nat) / 4 < cfg0.N := by omega
    obtain ⟨-, -, -, -, -, -, -, -, e0, e1, e2, -⟩ := index_facts ⟨(i 0 : Nat) / 4, ht⟩
    refine ⟨⟨(i 0 : Nat) / 4, ht⟩, flush0_3 _, ?_⟩
    show i ∈ ((View.whole main_v3_0).slice (win0_3.rect ⟨(i 0 : Nat) / 4, ht⟩)).set
    rw [View.set_slice_whole, Rect.mem_set_unit]
    intro a
    match a with
    | ⟨0, _⟩ =>
      show win0_3.index ⟨(i 0 : Nat) / 4, ht⟩ 0 * win0_3.size 0 ≤ (i 0 : Nat)
        ∧ (i 0 : Nat) < win0_3.index ⟨(i 0 : Nat) / 4, ht⟩ 0 * win0_3.size 0 + 4
      rw [e0]; dsimp only; omega
    | ⟨1, _⟩ =>
      show win0_3.index ⟨(i 0 : Nat) / 4, ht⟩ 1 * win0_3.size 1 ≤ (i 1 : Nat)
        ∧ (i 1 : Nat) < win0_3.index ⟨(i 0 : Nat) / 4, ht⟩ 1 * win0_3.size 1 + 64
      rw [e1]; omega
    | ⟨2, _⟩ =>
      show win0_3.index ⟨(i 0 : Nat) / 4, ht⟩ 2 * win0_3.size 2 ≤ (i 2 : Nat)
        ∧ (i 2 : Nat) < win0_3.index ⟨(i 0 : Nat) / 4, ht⟩ 2 * win0_3.size 2 + 1024
      rw [e2]; omega

/-- The one index of a 1 x 1 array. -/
theorem idx_S1x1 (i j : S1x1.Idx) : i = j := by
  funext a
  refine Fin.ext ?_
  match a with
  | ⟨0, _⟩ => have h : (i 0).val < 1 := (i 0).isLt; have h' : (j 0).val < 1 := (j 0).isLt; show (i 0).val = (j 0).val; omega
  | ⟨1, _⟩ => have h : (i 1).val < 1 := (i 1).isLt; have h' : (j 1).val < 1 := (j 1).isLt; show (i 1).val = (j 1).val; omega

/-- The perplexity's array after the run. -/
theorem final4 (c : Dev nD) :
    (dats m 0 c).arrAt 4 cfg0.N = k0_pay4 (countsAt (table m c) (V m c main_v0) 3) := by
  have h3 : 3 < cfg0.N := by rw [show cfg0.N = 4 from N_0]; decide
  refine (dats m 0 c).arrAt_eq_of_cover 4 _ (fun t ht => ?_) (fun i => ⟨⟨3, h3⟩, (flush0_4 _).mpr rfl, ?_⟩)
  · have hN : t.val < 4 := lt_of_lt_of_eq t.isLt (show cfg0.N = 4 from N_0)
    have e : t = ⟨3, h3⟩ := Fin.ext (by have := (flush0_4 t).mp ht; show t.val = 3; omega)
    subst e
    show (cfg0.win 4).cut (grid0.coords ⟨3, h3⟩) ((dats m 0 c).after 4 ⟨3, h3⟩) = _
    rw [after0_4, perpAt_eq]
    funext j
    exact congrArg (k0_pay4 (countsAt (table m c) (V m c main_v0) 3)) (idx_S1x1 _ ((win0_4.blk ⟨3, h3⟩).view.emb j))
  · obtain ⟨-, -, -, -, -, -, -, -, -, -, -, e0, e1⟩ := index_facts ⟨3, h3⟩
    have h0 : (i 0 : Nat) < 1 := (i 0).isLt
    have h1 : (i 1 : Nat) < 1 := (i 1).isLt
    show i ∈ ((View.whole main_v3_1).slice (win0_4.rect ⟨3, h3⟩)).set
    rw [View.set_slice_whole, Rect.mem_set_unit]
    intro a
    match a with
    | ⟨0, _⟩ =>
      show win0_4.index ⟨3, h3⟩ 0 * win0_4.size 0 ≤ (i 0 : Nat) ∧ (i 0 : Nat) < win0_4.index ⟨3, h3⟩ 0 * win0_4.size 0 + 1
      rw [e0]; omega
    | ⟨1, _⟩ =>
      show win0_4.index ⟨3, h3⟩ 1 * win0_4.size 1 ≤ (i 1 : Nat) ∧ (i 1 : Nat) < win0_4.index ⟨3, h3⟩ 1 * win0_4.size 1 + 1
      rw [e1]; omega

/-- The images the call finds: the argument's, each channel's rows laid out in a line. -/
theorem V_main_v0 (c : Dev nD) : V m c main_v0
    = shapeCast S16x64x1024 (m ((c : Thread nD τ).loc main_arg0)) shapeCasts_S16x64x32x32_S16x64x1024 := by
  show StableHlo.after (List.flatten [hostOps0]) _ _ = _
  simp only [hostOps0, List.flatten_cons, List.flatten_nil, List.append_nil]
  after_results_simp
  all_goals rfl

/-- The random images the call finds: the argument's tokens, channels first. -/
theorem V_main_v2 (c : Dev nD) : V m c main_v2
    = transpose S16x64x1024 [0, 2, 1] (shapeCast S16x1024x64 (m ((c : Thread nD τ).loc main_arg2)) shapeCasts_S16384x64_S16x1024x64)
        transposes_S16x1024x64_S16x64x1024_0_2_1 := by
  show StableHlo.after (List.flatten [hostOps0]) _ _ = _
  simp only [hostOps0, List.flatten_cons, List.flatten_nil, List.append_nil]
  after_results_simp
  all_goals rfl

/-- The first result: the moved tokens, each channel's line cut into rows. -/
theorem tail_v4 (c : Dev nD) : Pipeline.afterTail₀ cfgs (dats m) 0 (V0 m) [hostOps1] c main_v4
    = shapeCast S16x64x32x32 (movedAll (table m c) (V m c main_v0) (V m c main_v2)) shapeCasts_S16x64x1024_S16x64x32x32 := by
  have h : Pipeline.withArrays (cfgs 0).spec c (V0 m c) (fun w => (dats m 0 c).arrAt w cfg0.N) (Proc.devRef .tc main_v3_0)
      = (dats m 0 c).arrAt 3 cfg0.N := Pipeline.withArrays_arr spec0 (by decide) _ _ _ 3
  unfold Pipeline.afterTail₀
  simp only [hostOps1, List.flatten_cons, List.flatten_nil, List.append_nil]
  after_results_simp
  exact congrArg (fun y => shapeCast S16x64x32x32 y shapeCasts_S16x64x1024_S16x64x32x32) (h.trans (final3 m c))

/-- The second result: the perplexity. -/
theorem tail_v5 (c : Dev nD) : Pipeline.afterTail₀ cfgs (dats m) 0 (V0 m) [hostOps1] c main_v5
    = shapeCast S_ (k0_pay4 (countsAt (table m c) (V m c main_v0) 3)) shapeCasts_S1x1_S_ := by
  have h : Pipeline.withArrays (cfgs 0).spec c (V0 m c) (fun w => (dats m 0 c).arrAt w cfg0.N) (Proc.devRef .tc main_v3_1)
      = (dats m 0 c).arrAt 4 cfg0.N := Pipeline.withArrays_arr spec0 (by decide) _ _ _ 4
  unfold Pipeline.afterTail₀
  simp only [hostOps1, List.flatten_cons, List.flatten_nil, List.append_nil]
  after_results_simp
  exact congrArg (fun y => shapeCast S_ y shapeCasts_S1x1_S_) (h.trans (final4 m c))

/-- The images of the first argument, each channel's rows in a line. -/
abbrev images (c : Dev nD) : Vec F S16x64x1024 .f32 :=
  shapeCast S16x64x1024 (m ((c : Thread nD τ).loc main_arg0)) shapeCasts_S16x64x32x32_S16x64x1024
/-- The random images of the third argument, channels first. -/
abbrev randoms (c : Dev nD) : Vec F S16x64x1024 .f32 :=
  transpose S16x64x1024 [0, 2, 1] (shapeCast S16x1024x64 (m ((c : Thread nD τ).loc main_arg2)) shapeCasts_S16384x64_S16x1024x64)
    transposes_S16x1024x64_S16x64x1024_0_2_1

/-- Every run of the kernel ends, its two results at the values named, its arguments unchanged. -/
theorem run : θ_run defs (onTc (τ := τ) (main (F := F))) ⟨m, fun _ => 0, ρ⟩ fun r => ∀ c : Dev nD,
      r.2.mem ((c : Thread nD τ).loc main_v4)
        = shapeCast S16x64x32x32 (movedAll (table m c) (images m c) (randoms m c)) shapeCasts_S16x64x1024_S16x64x32x32
      ∧ r.2.mem ((c : Thread nD τ).loc main_v5)
        = shapeCast S_ (k0_pay4 (countsAt (table m c) (images m c) 3)) shapeCasts_S1x1_S_
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨?_, ?_, h.2 c⟩) (θ_run_and (run_main m ρ) (unchanged m ρ))
  · refine ((h.1 c).2 main_v4 (Pipeline.mem_restRefs_of main_v4 (by decide) (by decide))).trans ?_
    rw [tail_v4, V_main_v0, V_main_v2]
  · refine ((h.1 c).2 main_v5 (Pipeline.mem_restRefs_of main_v5 (by decide) (by decide))).trans ?_
    rw [tail_v5, V_main_v0]

end Cert.KernelIdeal.Value

end
-- ==== Proof.Tokens.lean ====
/- One token against the codebook, over the extended reals: the scores the kernel compares, and the facts that relate
   them to the squared distances when the token and the codebook are finite. -/
module

public import Idealize.ShloMosaic.Lib.Pointwise
public import Idealize.ShloMosaic.PureOps.Ideal

@[expose] public section

noncomputable section

namespace Cert.Tokens

open Idealize.ShloMosaic

/-- The word `2.0` is two. -/
theorem ofBits_two : Ideal.ofBits .f32 0x40000000#32 = ((2 : ℝ) : EReal) := by
  simp [Ideal.ofBits, Ideal.ieee, -EReal.coe_mul]; norm_num

/-- The word `-2.0` is minus two. -/
theorem ofBits_neg_two : Ideal.ofBits .f32 0xC0000000#32 = ((-2 : ℝ) : EReal) := by
  simp [Ideal.ofBits, Ideal.ieee, -EReal.coe_mul]; norm_num

/-- The word of plus infinity. -/
theorem ofBits_top : Ideal.ofBits .f32 0x7F800000#32 = ⊤ := by
  simp [Ideal.ofBits, Ideal.ieee]

/-- The score of a code at a token: `|c|² - 2 x·c`. -/
def score (c x : Fin 64 → EReal) : EReal :=
  ∑ d, c d * (0 - Ideal.ofBits .f32 0x40000000#32 * x d) + ∑ d, c d * c d

/-- The least over the codes of the score, as the kernel takes it. -/
def least (c : Fin 1024 → Fin 64 → EReal) (x : Fin 64 → EReal) : EReal :=
  (Finset.univ : Finset (Fin 1024)).fold min (Ideal.ofBits .f32 0x7F800000#32)
    fun k => ∑ d, c k d * (Ideal.ofBits .f32 0xC0000000#32 * x d) + ∑ d, c k d * c k d

/-- The squared distance of a token to a code, expanded: `|x|² - 2 x·c + |c|²`. -/
def spread (c x : Fin 64 → EReal) : EReal :=
  (∑ d, x d * x d) - Ideal.ofBits .f32 0x40000000#32 * (∑ d, x d * c d) + ∑ d, c d * c d

/-- A coordinate moved along the random vector by `√D`, `D` the squared distance to the nearest code. -/
def shift (D x : EReal) (rv : Fin 64 → EReal) (d : Fin 64) : EReal :=
  x + rv d * (Ideal.div (Ideal.sqrt D) (Ideal.sqrt (∑ e, rv e * rv e)) + Ideal.ofBits .f32 0x2B8CBCCC#32)

/-- The perplexity of the counts. -/
def perplexity (n : Fin 1024 → EReal) : EReal :=
  Ideal.exp (0 - ∑ k, Ideal.div (n k) (Ideal.ofBits .f32 0x46800000#32)
    * Ideal.log (Ideal.div (n k) (Ideal.ofBits .f32 0x46800000#32) + Ideal.ofBits .f32 0x2EDBE6FF#32))

/-! ## Finite tokens and codes -/

/-- A sum of real numbers, inside the extended reals. -/
theorem coe_sum {ι : Type} [Fintype ι] (f : ι → ℝ) : ∑ i, ((f i : ℝ) : EReal) = ((∑ i, f i : ℝ) : EReal) := by
  classical
  exact (map_sum (⟨⟨(fun a : ℝ => (a : EReal)), EReal.coe_zero⟩, EReal.coe_add⟩ : ℝ →+ EReal) f Finset.univ).symm

/-- The score of a code at a token over the reals. -/
def rscore (c x : Fin 64 → ℝ) : ℝ := ∑ d, c d * c d - 2 * ∑ d, c d * x d

theorem score_coe (c x : Fin 64 → ℝ) : score (fun d => (c d : EReal)) (fun d => (x d : EReal)) = (rscore c x : ℝ) := by
  unfold score rscore
  simp only [ofBits_two, ← EReal.coe_mul, ← EReal.coe_zero, ← EReal.coe_sub, coe_sum, ← EReal.coe_add]
  congr 1
  rw [Finset.mul_sum, add_comm, sub_eq_add_neg, ← Finset.sum_neg_distrib]
  exact congrArg _ (Finset.sum_congr rfl fun d _ => by ring)

theorem least_coe (c : Fin 1024 → Fin 64 → ℝ) (x : Fin 64 → ℝ) :
    least (fun k d => (c k d : EReal)) (fun d => (x d : EReal))
      = (Finset.univ : Finset (Fin 1024)).fold min ⊤ fun k => ((rscore (c k) x : ℝ) : EReal) := by
  unfold least
  rw [ofBits_top]
  refine Finset.fold_congr fun k _ => ?_
  unfold rscore
  simp only [ofBits_neg_two, ← EReal.coe_mul, coe_sum, ← EReal.coe_add]
  congr 1
  rw [Finset.mul_sum, add_comm, sub_eq_add_neg, ← Finset.sum_neg_distrib]
  exact congrArg _ (Finset.sum_congr rfl fun d _ => by ring)

theorem spread_coe (c x : Fin 64 → ℝ) : spread (fun d => (c d : EReal)) (fun d => (x d : EReal))
    = ((∑ d, x d * x d + rscore c x : ℝ) : EReal) := by
  unfold spread rscore
  simp only [ofBits_two, ← EReal.coe_mul, coe_sum, ← EReal.coe_sub, ← EReal.coe_add]
  congr 1
  rw [Finset.sum_congr rfl fun d _ => mul_comm (x d) (c d)]
  ring

/-- The least of finitely many values that one of them attains. -/
theorem fold_min_eq {ι : Type} [Fintype ι] (f : ι → EReal) (i : ι) (h : ∀ k, f i ≤ f k) :
    (Finset.univ : Finset ι).fold min ⊤ f = f i := by
  classical
  refine le_antisymm ((Finset.fold_min_le _).mpr (Or.inr ⟨i, Finset.mem_univ _, le_rfl⟩)) ?_
  exact (Finset.le_fold_min _).mpr ⟨le_top, fun k _ => h k⟩

/-- The squared distance of a finite token to a finite code, summed coordinate by coordinate, is its expansion. -/
theorem sq_dist_coe (c x : Fin 64 → ℝ) :
    ∑ d, ((x d : EReal) - c d) * ((x d : EReal) - c d) = ((∑ d, x d * x d + rscore c x : ℝ) : EReal) := by
  simp only [← EReal.coe_sub, ← EReal.coe_mul, coe_sum]
  congr 1
  unfold rscore
  rw [Finset.mul_sum, ← Finset.sum_sub_distrib, ← Finset.sum_add_distrib]
  exact Finset.sum_congr rfl fun d _ => by ring

/-- A value whose magnitude is below infinity is a real number. -/
theorem exists_coe (x : EReal) (h : max x (-x) < ⊤) : ∃ r : ℝ, x = r := by
  induction x using EReal.rec with
  | bot => exact absurd h (by simp)
  | coe r => exact ⟨r, rfl⟩
  | top => exact absurd h (by simp)

/-- Some code is at the least distance. -/
theorem exists_nearest (c : Fin 1024 → Fin 64 → EReal) (x : Fin 64 → EReal) : ∃ i, ∀ k, spread (c i) x ≤ spread (c k) x := by
  obtain ⟨i, -, h⟩ := Finset.exists_min_image (Finset.univ : Finset (Fin 1024)) (fun k => spread (c k) x) ⟨0, Finset.mem_univ _⟩
  exact ⟨i, fun k => h k (Finset.mem_univ k)⟩

section Nearest

variable {c : Fin 1024 → Fin 64 → EReal} {x : Fin 64 → EReal}
  (hc : ∀ k d, max (c k d) (-(c k d)) < ⊤) (hx : ∀ d, max (x d) (-(x d)) < ⊤)
include hc hx

/-- A finite codebook and a finite token are arrays of real numbers. -/
theorem exists_real : ∃ (cr : Fin 1024 → Fin 64 → ℝ) (xr : Fin 64 → ℝ),
    c = (fun k d => ((cr k d : ℝ) : EReal)) ∧ x = fun d => ((xr d : ℝ) : EReal) :=
  ⟨fun k d => (exists_coe _ (hc k d)).choose, fun d => (exists_coe _ (hx d)).choose,
    funext fun k => funext fun d => (exists_coe _ (hc k d)).choose_spec, funext fun d => (exists_coe _ (hx d)).choose_spec⟩

/-- What the kernel takes for the squared distance to the nearest code is the sum of squared differences. -/
theorem dist_nearest {i : Fin 1024} (hi : ∀ k, spread (c i) x ≤ spread (c k) x) :
    max ((∑ d, x d * x d) + least c x) 0 = ∑ d, (x d - c i d) * (x d - c i d) := by
  obtain ⟨cr, xr, rfl, rfl⟩ := exists_real hc hx
  have hr : ∀ k, rscore (cr i) xr ≤ rscore (cr k) xr := fun k => by
    have h := hi k
    rw [spread_coe, spread_coe, EReal.coe_le_coe_iff] at h
    linarith
  have hn : 0 ≤ ∑ d, xr d * xr d + rscore (cr i) xr := by
    have h : (0 : EReal) ≤ ((∑ d, xr d * xr d + rscore (cr i) xr : ℝ) : EReal) := by
      rw [← sq_dist_coe]
      simp only [← EReal.coe_sub, ← EReal.coe_mul, coe_sum]
      exact EReal.coe_nonneg.mpr (Finset.sum_nonneg fun d _ => mul_self_nonneg _)
    exact EReal.coe_nonneg.mp h
  rw [sq_dist_coe, least_coe, fold_min_eq _ i fun k => EReal.coe_le_coe_iff.mpr (hr k)]
  simp only [← EReal.coe_mul, coe_sum, ← EReal.coe_add]
  exact max_eq_left (EReal.coe_nonneg.mpr hn)

/-- A code's score is the least one exactly when the code is the nearest, where no other is as near. -/
theorem score_eq_least {i : Fin 1024} (hi : ∀ k, spread (c i) x ≤ spread (c k) x)
    (hu : ∀ k, spread (c k) x ≤ spread (c i) x → k = i) (k : Fin 1024) :
    score (c k) x = least c x ↔ k = i := by
  obtain ⟨cr, xr, rfl, rfl⟩ := exists_real hc hx
  have hr : ∀ k, rscore (cr i) xr ≤ rscore (cr k) xr := fun k => by
    have h := hi k
    rw [spread_coe, spread_coe, EReal.coe_le_coe_iff] at h
    linarith
  rw [score_coe, least_coe, fold_min_eq _ i fun k => EReal.coe_le_coe_iff.mpr (hr k)]
  refine ⟨fun h => hu k ?_, fun h => by rw [h]⟩
  rw [spread_coe, spread_coe, EReal.coe_eq_coe_iff.mp h]

end Nearest

end Cert.Tokens

end
-- ==== Proof.KernelRead.lean ====
/- The kernel's two results over the extended reals, read at an index: each token moved by its own distance to the
   codebook, and the perplexity of the counts of the codes whose score is the least. -/
module

public import proofs.«01_k».proof.Proof.KernelArrays
public import proofs.«01_k».proof.Proof.Tokens

@[expose] public section

set_option maxRecDepth 16384

noncomputable section

namespace Cert.KernelIdeal.Value

open Cert.KernelIdeal Cert.KernelIdeal.Gen Idealize.ShloMosaic

/-- The rows of the codebook. -/
def codes (c : Vec Ideal S1024x64 .f32) (k : Fin 1024) (d : Fin 64) : EReal := c (ix2 k d)

/-- Token `q` of a block of four images. -/
def lane (x : Vec Ideal S4x64x1024 .f32) (q : Fin 4096) (d : Fin 64) : EReal :=
  x (ix3 ⟨q.val / 1024, by omega⟩ d ⟨q.val % 1024, by omega⟩)

/-- Token `n` of all sixteen images. -/
def token (x : Vec Ideal S16x64x1024 .f32) (n : Fin 16384) (d : Fin 64) : EReal :=
  x (ix3 ⟨n.val / 1024, by omega⟩ d ⟨n.val % 1024, by omega⟩)

/-- A token of a block is the column of its own image at its own place. -/
theorem lane_eq (x : Vec Ideal S4x64x1024 .f32) (q : Fin 4096) (d : Fin 64) (i : Fin 4) (p : Fin 1024)
    (hi : i.val * 1024 + p.val = q.val) : x (ix3 i d p) = lane x q d := by
  have h1 : i = ⟨q.val / 1024, by omega⟩ := Fin.ext (by show i.val = q.val / 1024; omega)
  have h2 : p = ⟨q.val % 1024, by omega⟩ := Fin.ext (by show p.val = q.val % 1024; omega)
  rw [h1, h2]
  rfl

/-- A block's images side by side hold its tokens as columns. -/
theorem beside_at (x : Vec Ideal S4x64x1024 .f32) (d : Fin 64) (q : Fin 4096) : beside x (ix2 d q) = lane x q d := by
  pointwise [beside, k0_pay6, slab]
  have hq := q.isLt
  split_ifs with h1 h2 h3
  all_goals
    apply lane_eq
    simp only [Fin.isValue, Fin.coe_ofNat_eq_mod]
    omega

/-- A code's score at a token of the block. -/
theorem scores_at (c : Vec Ideal S1024x64 .f32) (x : Vec Ideal S4x64x1024 .f32) (k : Fin 1024) (q : Fin 4096) :
    scores (k0_pay5 c) x (ix2 k q) = Tokens.score (codes c k) (lane x q) := by
  have hX : ∀ d q, k0_pay6 (slab x 0) (slab x 1) (slab x 2) (slab x 3) (ix2 d q) = lane x q d := beside_at x
  unfold scores k0_pay8
  generalize k0_pay6 (slab x 0) (slab x 1) (slab x 2) (slab x 3) = X at hX
  pointwise [k0_pay5]
  simp only [hX, Finset.univ_unique, Finset.sum_singleton]
  rfl

/-- The least score at a token of the block, as the kernel computes it. -/
theorem least_at (c : Vec Ideal S1024x64 .f32) (x : Vec Ideal S4x64x1024 .f32) (q : Fin 4096) :
    least (k0_pay5 c) x (ix2 0 q) = Tokens.least (codes c) (lane x q) := by
  have hX : ∀ d q, k0_pay6 (slab x 0) (slab x 1) (slab x 2) (slab x 3) (ix2 d q) = lane x q d := beside_at x
  unfold least k0_pay7
  generalize k0_pay6 (slab x 0) (slab x 1) (slab x 2) (slab x 3) = X at hX
  pointwise [k0_pay5]
  simp only [hX, Finset.univ_unique, Finset.sum_singleton]
  rfl

/-- The squared length of a token of the block plus its least score. -/
theorem dist2_at (c : Vec Ideal S1024x64 .f32) (x : Vec Ideal S4x64x1024 .f32) (q : Fin 4096) :
    dist2 (k0_pay5 c) x (ix2 0 q) = (∑ d, lane x q d * lane x q d) + Tokens.least (codes c) (lane x q) := by
  have hX : ∀ d q, k0_pay6 (slab x 0) (slab x 1) (slab x 2) (slab x 3) (ix2 d q) = lane x q d := beside_at x
  have hY : k0_pay7 (k0_pay5 c) (slab x 0) (slab x 1) (slab x 2) (slab x 3) (ix2 0 q) = Tokens.least (codes c) (lane x q) :=
    least_at c x q
  unfold dist2 k0_pay9
  generalize k0_pay6 (slab x 0) (slab x 1) (slab x 2) (slab x 3) = X at hX
  generalize k0_pay7 _ (slab x 0) (slab x 1) (slab x 2) (slab x 3) = Y at hY
  pointwise
  simp only [hX, hY]

/-- A token moved by a point. -/
theorem movedBeside_at (c : Vec Ideal S1024x64 .f32) (x rv : Vec Ideal S4x64x1024 .f32) (d : Fin 64) (q : Fin 4096) :
    movedBeside (k0_pay5 c) x rv (ix2 d q)
      = Tokens.shift (max ((∑ d, lane x q d * lane x q d) + Tokens.least (codes c) (lane x q)) 0) (lane x q d) (lane rv q) d := by
  have hR : ∀ d q, k0_pay6 (slab rv 0) (slab rv 1) (slab rv 2) (slab rv 3) (ix2 d q) = lane rv q d := beside_at rv
  have hD := dist2_at c x q
  have hx := beside_at x d q
  unfold movedBeside k0_pay11
  change (addf (beside x) (mulf (k0_pay6 (slab rv 0) (slab rv 1) (slab rv 2) (slab rv 3)) (broadcastTo S64x4096 (addf
    (divf (sqrt (maximumf (dist2 (k0_pay5 c) x) k0_pay10)) (sqrt (shapeCast S1x4096 (multiReduction .add [0] S4096
      (mulf (k0_pay6 (slab rv 0) (slab rv 1) (slab rv 2) (slab rv 3)) (k0_pay6 (slab rv 0) (slab rv 1) (slab rv 2) (slab rv 3)))
      0x00000000#32 reduces_S64x4096_S4096 (.inl rfl) rfl) shapeCasts_S4096_S1x4096)))
    (broadcast S1x4096 (Scalar.ofBits .f32 0x2B8CBCCC#32))) broadcasts_S1x4096_S64x4096)) : FVec Ideal S64x4096 .f32) (ix2 d q) = _
  generalize k0_pay6 (slab rv 0) (slab rv 1) (slab rv 2) (slab rv 3) = R at hR
  generalize dist2 (k0_pay5 c) x = D at hD
  generalize beside x = X at hx
  pointwise [k0_pay10]
  simp only [hR, hD, hx]
  rfl

/-- The counts a point adds to: the tokens at which a code's score is the least. -/
theorem stepCounts_at (c : Vec Ideal S1024x64 .f32) (x : Vec Ideal S4x64x1024 .f32) (n : Vec Ideal S1024x1 .f32) (k : Fin 1024) :
    stepCounts (k0_pay5 c) x n (ix2 k 0) = n (ix2 k 0)
      + ∑ q : Fin 4096, if Tokens.score (codes c k) (lane x q) = Tokens.least (codes c) (lane x q) then 1 else 0 := by
  have hS := scores_at c x k
  have hL := least_at c x
  unfold stepCounts
  generalize scores (k0_pay5 c) x = S at hS
  generalize least (k0_pay5 c) x = L at hL
  pointwise [k0_pay3]
  simp only [hS, hL]

/-- The perplexity of the counts. -/
theorem perp_at (n : Vec Ideal S1024x1 .f32) (k : S1x1.Idx) : k0_pay4 n k = Tokens.perplexity fun k => n (ix2 k 0) := by
  pointwise [k0_pay4]
  simp only [Finset.univ_unique, Finset.sum_singleton]
  rfl

/-- A token of the block at a grid point is a token of all the images. -/
theorem lane_imgs (x : Vec Ideal S16x64x1024 .f32) (g : Nat) (hg : g < 4) (q : Fin 4096) :
    lane (imgs x g) q = token x ⟨g * 4096 + q.val, by omega⟩ := by
  have hq := q.isLt
  funext d
  refine congrArg x (funext fun a => Fin.ext ?_)
  match a with
  | ⟨0, _⟩ => show (4 * g + q.val / 1024) % 16 = (g * 4096 + q.val) / 1024; omega
  | ⟨1, _⟩ => rfl
  | ⟨2, _⟩ => show q.val % 1024 = (g * 4096 + q.val) % 1024; omega

/-- The counts after the last point: over all the tokens, how often a code's score is the least. -/
theorem counts_at (c : Vec Ideal S1024x64 .f32) (x : Vec Ideal S16x64x1024 .f32) (k : Fin 1024) :
    countsAt (k0_pay5 c) x 3 (ix2 k 0)
      = ∑ n : Fin 16384, if Tokens.score (codes c k) (token x n) = Tokens.least (codes c) (token x n) then 1 else 0 := by
  have h0 : (k0_pay2 (F := Ideal)) (ix2 k 0) = 0 := by pointwise [k0_pay2]
  have hT := Fin.sum_univ_tiles 4 4096 (by decide : 16384 = 4 * 4096)
    (fun n : Fin 16384 => if Tokens.score (codes c k) (token x n) = Tokens.least (codes c) (token x n) then (1 : EReal) else 0)
  rw [hT, Fin.sum_univ_four]
  simp only [countsAt, stepCounts_at, h0, zero_add, lane_imgs x 0 (by decide), lane_imgs x 1 (by decide),
    lane_imgs x 2 (by decide), lane_imgs x 3 (by decide)]
  rfl

/-- The moved images: a token at an image and a place. -/
theorem movedAll_apply (c : Vec Ideal S1024x64 .f32) (x rv : Vec Ideal S16x64x1024 .f32) (b : Fin 16) (d : Fin 64) (p : Fin 1024)
    (n : Fin 16384) (hn : b.val * 1024 + p.val = n.val) :
    movedAll (k0_pay5 c) x rv (ix3 b d p)
      = Tokens.shift (max ((∑ e, token x n e * token x n e) + Tokens.least (codes c) (token x n)) 0) (token x n d) (token rv n) d := by
  have hb := b.isLt
  have hp := p.isLt
  have hq : b.val % 4 * 1024 + p.val < 4096 := by omega
  have key : movedAll (k0_pay5 c) x rv (ix3 b d p)
      = movedBeside (k0_pay5 c) (imgs x (b.val / 4)) (imgs rv (b.val / 4)) (ix2 d ⟨b.val % 4 * 1024 + p.val, hq⟩) := by
    refine congrArg (movedBeside (k0_pay5 c) (imgs x (b.val / 4)) (imgs rv (b.val / 4))) (funext fun a => Fin.ext ?_)
    match a with
    | ⟨0, _⟩ => rfl
    | ⟨1, _⟩ => show 1024 * (b.val % 4) + p.val = b.val % 4 * 1024 + p.val; omega
  have hg : b.val / 4 < 4 := by omega
  have hN : (⟨b.val / 4 * 4096 + (b.val % 4 * 1024 + p.val), by omega⟩ : Fin 16384) = n := Fin.ext (by
    show b.val / 4 * 4096 + (b.val % 4 * 1024 + p.val) = n.val
    omega)
  rw [key, movedBeside_at, lane_imgs x _ hg, lane_imgs rv _ hg]
  simp only [hN]

end Cert.KernelIdeal.Value

end
-- ==== Proof.RefRun.lean ====
/- The run of the reference's host program, written as five lists of operations with the value each part leaves:
   the squared distances, the nearest code of each token, its row, the moved tokens, and the perplexity. -/
module

public import proofs.«01_k».proof.Proof.Gen.ReferenceIdeal
public import Idealize.ShloMosaic.Lib.StableHlo.Run
public import Idealize.ShloMosaic.Lib.Pipeline.Frame
public import Idealize.ShloMosaic.Lib.Quiescent

@[expose] public section

set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-! ## The five parts' values -/

/-- The tokens: the input with its channel axis last, one row per position. -/
def tokens (x : FVec F S16x64x32x32 .f32) : FVec F S16384x64 .f32 :=
  shapeCast S16384x64 (transpose S16x32x32x64 [0, 2, 3, 1] x transposes_S16x64x32x32_S16x32x32x64_0_2_3_1)
    shapeCasts_S16x32x32x64_S16384x64

/-- The squared distance of every token to every code, expanded: `|x|² - 2 x·c + |c|²`. -/
def distances (t : FVec F S16384x64 .f32) (c : FVec F S1024x64 .f32) : FVec F S16384x1024 .f32 :=
  addf (subf (broadcastInDim S16384x1024 ![0, 1] bcast_S16384x1_S16384x1024_0_1
        (broadcastInDim S16384x1 ![0] bcast_S16384_S16384x1_0
          (Host.reduceAdd (mulf t t) (constant S_ .f32 0x00000000#32) reducesTo_S16384x64_S16384_d1 h_S_)))
      (mulf (broadcastInDim S16384x1024 ![] bcast_S_S16384x1024 (constant S_ .f32 0x40000000#32))
        (Host.dotGeneral dot_S16384x64_S64x1024_S16384x1024_1_0_0_1_n_n none t
          (transpose S64x1024 [1, 0] c transposes_S1024x64_S64x1024_1_0))))
    (broadcastInDim S16384x1024 ![0, 1] bcast_S1x1024_S16384x1024_0_1
      (broadcastInDim S1x1024 ![1] bcast_S1024_S1x1024_1
        (Host.reduceAdd (mulf (transpose S64x1024 [1, 0] c transposes_S1024x64_S64x1024_1_0)
            (transpose S64x1024 [1, 0] c transposes_S1024x64_S64x1024_1_0))
          (constant S_ .f32 0x00000000#32) reducesTo_S64x1024_S1024_d0 h_S_)))

/-- The index of the nearest code of every token. -/
def nearest (d : FVec F S16384x1024 .f32) : IVec S16384 32 :=
  fun j => (Host.argReduce reducer_argmin_f32_i32 d (iotaInDim S16384x1024 32 1) (constant S_ .f32 0x7F800000#32)
    (constantI S_ 32 0#32) reducesTo_S16384x1024_S16384_d1 h_S_ j).2

/-- An index below zero counted from the end, in a column. -/
def wrapped (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)

/-- The codebook's row at each index; a row of the fill word where the index is out of range. -/
def codeRows (c : FVec F S1024x64 .f32) (i : IVec S16384 32) : FVec F S16384x64 .f32 :=
  select (broadcastInDim S16384x64 ![0] bcast_S16384_S16384x64_0
      (Host.reduce IntOp.andi
        (andi (cmpi .sge (wrapped i) (broadcastInDim S16384x1 ![] bcast_S_S16384x1 (constantI S_ 32 0#32)))
          (cmpi .sle (wrapped i) (broadcastInDim S16384x1 ![0, 1] bcast_S1x1_S16384x1_0_1
            (broadcastInDim S1x1 ![1] bcast_S1_S1x1_1 (constantI S1 32 1023#32)))))
        (constantI S_ 1 1#1) reducesTo_S16384x1_S16384_d1 h_S_))
    (Host.gather gather_S1024x64_S16384x1_S16384x64_1_0_n_n_0_1_164 c (wrapped i))
    (broadcastInDim S16384x64 ![] bcast_S_S16384x64 (constant S_ .f32 0x7FC00000#32))

/-- The length of every row, as a column. -/
def rowNorm (t : FVec F S16384x64 .f32) : FVec F S16384x1 .f32 :=
  Host.sqrt (broadcastInDim S16384x1 ![0] bcast_S16384_S16384x1_0
    (Host.reduceAdd (mulf t t) (constant S_ .f32 0x00000000#32) reducesTo_S16384x64_S16384_d1 h_S_))

/-- The tokens moved along the random vectors by their distance to the given rows, back in the input's order. -/
def moved (t q rv : FVec F S16384x64 .f32) : FVec F S16x32x32x64 .f32 :=
  shapeCast S16x32x32x64 (addf t (mulf (broadcastInDim S16384x64 ![0, 1] bcast_S16384x1_S16384x64_0_1
    (addf (Host.divf (rowNorm (subf t q)) (rowNorm rv))
      (broadcastInDim S16384x1 ![] bcast_S_S16384x1 (constant S_ .f32 0x2B8CBCCC#32)))) rv))
    shapeCasts_S16384x64_S16x32x32x64

/-- How many tokens chose each code. -/
def chosen (i : IVec S16384 32) : FVec F S1024 .f32 :=
  Host.reduceAdd (uitofp .f32 (cmpi .eq
      (broadcastInDim S16384x1024 ![0, 1] bcast_S16384x1_S16384x1024_0_1
        (broadcastInDim S16384x1 ![0] bcast_S16384_S16384x1_0 i))
      (broadcastInDim S16384x1024 ![0, 1] bcast_S1x1024_S16384x1024_0_1 (iotaInDim S1x1024 32 1))))
    (constant S_ .f32 0x00000000#32) reducesTo_S16384x1024_S1024_d0 h_S_

/-- The share of the tokens that chose each code. -/
def share (n : FVec F S1024 .f32) : FVec F S1024 .f32 :=
  Host.divf n (broadcastInDim S1024 ![] bcast_S_S1024 (constant S_ .f32 0x46800000#32))

/-- The perplexity of the shares. -/
def perplexity (p : FVec F S1024 .f32) : FVec F S_ .f32 :=
  Host.exp (Host.negf (Host.reduceAdd (mulf p (Host.log (addf p
      (broadcastInDim S1024 ![] bcast_S_S1024 (constant S_ .f32 0x2EDBE6FF#32)))))
    (constant S_ .f32 0x00000000#32) reducesTo_S1024_S_d0 h_S_))

/-- The moved tokens in the input's layout. -/
def channels (y : FVec F S16x32x32x64 .f32) : FVec F S16x64x32x32 .f32 :=
  transpose S16x64x32x32 [0, 3, 1, 2] y transposes_S16x32x32x64_S16x64x32x32_0_3_1_2

/-! ## The operations -/

/-- @main's operations in order, part of 5: tokens and their squared distances to every code. -/
abbrev opsDist : List (HloOp τ sig (Elt F)) :=
  [ unary main_arg0 main_v0 ((transpose S16x32x32x64 [0, 2, 3, 1] · transposes_S16x64x32x32_S16x32x32x64_0_2_3_1) : (⟨S16x64x32x32, .f32⟩ : BufTy).Contents (Elt F) → (⟨S16x32x32x64, .f32⟩ : BufTy).Contents (Elt F)),
    reshape main_v0 main_v1 (rfl : (.f32 : EltTy) = .f32) shapeCasts_S16x32x32x64_S16384x64,
    binary main_v1 main_v1 main_v2 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v2 main_cst main_v3 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v3 main_v4 (broadcastInDim S16384x1 ![0] bcast_S16384_S16384x1_0 : (⟨S16384, .f32⟩ : BufTy).Contents (Elt F) → (⟨S16384x1, .f32⟩ : BufTy).Contents (Elt F)),
    unary main_arg1 main_v5 ((transpose S64x1024 [1, 0] · transposes_S1024x64_S64x1024_1_0) : (⟨S1024x64, .f32⟩ : BufTy).Contents (Elt F) → (⟨S64x1024, .f32⟩ : BufTy).Contents (Elt F)),
    binary main_v1 main_v5 main_v6 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    nullary main_cst_0 (constant S_ .f32 0x40000000#32),
    unary main_cst_0 main_v7 (broadcastInDim S16384x1024 ![] bcast_S_S16384x1024 : (⟨S_, .f32⟩ : BufTy).Contents (Elt F) → (⟨S16384x1024, .f32⟩ : BufTy).Contents (Elt F)),
    binary main_v7 main_v6 main_v8 (mulf : (⟨S16384x1024, .f32⟩ : BufTy).Contents (Elt F) → (⟨S16384x1024, .f32⟩ : BufTy).Contents (Elt F) → (⟨S16384x1024, .f32⟩ : BufTy).Contents (Elt F)),
    unary main_v4 main_v9 (broadcastInDim S16384x1024 ![0, 1] bcast_S16384x1_S16384x1024_0_1 : (⟨S16384x1, .f32⟩ : BufTy).Contents (Elt F) → (⟨S16384x1024, .f32⟩ : BufTy).Contents (Elt F)),
    binary main_v9 main_v8 main_v10 (subf : (⟨S16384x1024, .f32⟩ : BufTy).Contents (Elt F) → (⟨S16384x1024, .f32⟩ : BufTy).Contents (Elt F) → (⟨S16384x1024, .f32⟩ : BufTy).Contents (Elt F)),
    unary main_arg1 main_v11 ((transpose S64x1024 [1, 0] · transposes_S1024x64_S64x1024_1_0) : (⟨S1024x64, .f32⟩ : BufTy).Contents (Elt F) → (⟨S64x1024, .f32⟩ : BufTy).Contents (Elt F)),
    binary main_v11 main_v11 main_v12 (mulf : (⟨S64x1024, .f32⟩ : BufTy).Contents (Elt F) → (⟨S64x1024, .f32⟩ : BufTy).Contents (Elt F) → (⟨S64x1024, .f32⟩ : BufTy).Contents (Elt F)),
    nullary main_cst_1 (constant S_ .f32 0x00000000#32),
    binary main_v12 main_cst_1 main_v13 ((fun x v => Host.reduceAdd x v reducesTo_S64x1024_S1024_d0 h_S_) : (⟨S64x1024, .f32⟩ : BufTy).Contents (Elt F) → (⟨S_, .f32⟩ : BufTy).Contents (Elt F) → (⟨S1024, .f32⟩ : BufTy).Contents (Elt F)),
    unary main_v13 main_v14 (broadcastInDim S1x1024 ![1] bcast_S1024_S1x1024_1 : (⟨S1024, .f32⟩ : BufTy).Contents (Elt F) → (⟨S1x1024, .f32⟩ : BufTy).Contents (Elt F)),
    unary main_v14 main_v15 (broadcastInDim S16384x1024 ![0, 1] bcast_S1x1024_S16384x1024_0_1 : (⟨S1x1024, .f32⟩ : BufTy).Contents (Elt F) → (⟨S16384x1024, .f32⟩ : BufTy).Contents (Elt F)),
    binary main_v10 main_v15 main_v16 (addf : (⟨S16384x1024, .f32⟩ : BufTy).Contents (Elt F) → (⟨S16384x1024, .f32⟩ : BufTy).Contents (Elt F) → (⟨S16384x1024, .f32⟩ : BufTy).Contents (Elt F)) ]

/-- @main's operations in order, part of 5: the nearest code of each token. -/
abbrev opsArgmin : List (HloOp τ sig (Elt F)) :=
  [ TRef.nullary (TRef.of (T := ⟨S16384x1024, .i32⟩) main_call0_v0) (iotaInDim S16384x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16384x1024, .f32⟩) main_v16) (TRef.of (T := ⟨S16384x1024, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmin_f32_i32 x y u v reducesTo_S16384x1024_S16384_d1 h_S_ j).1),
    TRef.quaternary (TRef.of (T := ⟨S16384x1024, .f32⟩) main_v16) (TRef.of (T := ⟨S16384x1024, .i32⟩) main_call0_v0) (TRef.of (T := ⟨S_, .f32⟩) main_call0_cst) (TRef.of (T := ⟨S_, .i32⟩) main_call0_c) (TRef.of (T := ⟨S16384, .i32⟩) main_v17) (fun x y u v j => (Host.argReduce reducer_argmin_f32_i32 x y u v reducesTo_S16384x1024_S16384_d1 h_S_ j).2) ]

/-- @main's operations in order, part of 5: the row of the nearest code. -/
abbrev opsTake : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S16384, .i32⟩) main_call1_v0) (broadcastInDim S16384 ![] bcast_S_S16384),
    TRef.binary (TRef.of (T := ⟨S16384, .i32⟩) main_v17) (TRef.of (T := ⟨S16384, .i32⟩) main_call1_v0) (TRef.of (T := ⟨S16384, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S16384, .i32⟩) main_call1_v2) (broadcastInDim S16384 ![] bcast_S_S16384),
    TRef.binary (TRef.of (T := ⟨S16384, .i32⟩) main_v17) (TRef.of (T := ⟨S16384, .i32⟩) main_call1_v2) (TRef.of (T := ⟨S16384, .i32⟩) main_call1_v3) addi,
    TRef.ternary (TRef.of (T := ⟨S16384, .i1⟩) main_call1_v1) (TRef.of (T := ⟨S16384, .i32⟩) main_call1_v3) (TRef.of (T := ⟨S16384, .i32⟩) main_v17) (TRef.of (T := ⟨S16384, .i32⟩) main_call1_v4) select,
    TRef.unary (TRef.of (T := ⟨S16384, .i32⟩) main_call1_v4) (TRef.of (T := ⟨S16384x1, .i32⟩) main_call1_v5) (broadcastInDim S16384x1 ![0] bcast_S16384_S16384x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S16384x1, .i32⟩) main_call1_v6) (broadcastInDim S16384x1 ![] bcast_S_S16384x1),
    TRef.binary (TRef.of (T := ⟨S16384x1, .i32⟩) main_call1_v5) (TRef.of (T := ⟨S16384x1, .i32⟩) main_call1_v6) (TRef.of (T := ⟨S16384x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S16384x1, .i32⟩) main_call1_v9) (broadcastInDim S16384x1 ![0, 1] bcast_S1x1_S16384x1_0_1),
    TRef.binary (TRef.of (T := ⟨S16384x1, .i32⟩) main_call1_v5) (TRef.of (T := ⟨S16384x1, .i32⟩) main_call1_v9) (TRef.of (T := ⟨S16384x1, .i1⟩) main_call1_v10) (cmpi .sle),
    TRef.binary (TRef.of (T := ⟨S16384x1, .i1⟩) main_call1_v7) (TRef.of (T := ⟨S16384x1, .i1⟩) main_call1_v10) (TRef.of (T := ⟨S16384x1, .i1⟩) main_call1_v11) andi,
    TRef.nullary (TRef.of (T := ⟨S_, .i1⟩) main_call1_c_3) (constantI S_ 1 1#1),
    TRef.binary (TRef.of (T := ⟨S16384x1, .i1⟩) main_call1_v11) (TRef.of (T := ⟨S_, .i1⟩) main_call1_c_3) (TRef.of (T := ⟨S16384, .i1⟩) main_call1_v12) (fun x v => Host.reduce IntOp.andi x v reducesTo_S16384x1_S16384_d1 h_S_),
    TRef.binary (TRef.of (T := ⟨S1024x64, .f32⟩) main_arg1) (TRef.of (T := ⟨S16384x1, .i32⟩) main_call1_v5) (TRef.of (T := ⟨S16384x64, .f32⟩) main_call1_v13) (fun x i => Host.gather gather_S1024x64_S16384x1_S16384x64_1_0_n_n_0_1_164 x i),
    TRef.unary (TRef.of (T := ⟨S16384, .i1⟩) main_call1_v12) (TRef.of (T := ⟨S16384x64, .i1⟩) main_call1_v14) (broadcastInDim S16384x64 ![0] bcast_S16384_S16384x64_0),
    TRef.nullary (TRef.of (T := ⟨S_, .f32⟩) main_call1_cst) (constant S_ .f32 0x7FC00000#32),
    TRef.unary (TRef.of (T := ⟨S_, .f32⟩) main_call1_cst) (TRef.of (T := ⟨S16384x64, .f32⟩) main_call1_v15) (broadcastInDim S16384x64 ![] bcast_S_S16384x64),
    TRef.ternary (TRef.of (T := ⟨S16384x64, .i1⟩) main_call1_v14) (TRef.of (T := ⟨S16384x64, .f32⟩) main_call1_v13) (TRef.of (T := ⟨S16384x64, .f32⟩) main_call1_v15) (TRef.of (T := ⟨S16384x64, .f32⟩) main_v18) select ]

/-- @main's operations in order, part of 5: the moved tokens. -/
abbrev opsMove : List (HloOp τ sig (Elt F)) :=
  [ binary main_v1 main_v18 main_v19 (subf : (⟨S16384x64, .f32⟩ : BufTy).Contents (Elt F) → (⟨S16384x64, .f32⟩ : BufTy).Contents (Elt F) → (⟨S16384x64, .f32⟩ : BufTy).Contents (Elt F)),
    binary main_v19 main_v19 main_v20 (mulf : (⟨S16384x64, .f32⟩ : BufTy).Contents (Elt F) → (⟨S16384x64, .f32⟩ : BufTy).Contents (Elt F) → (⟨S16384x64, .f32⟩ : BufTy).Contents (Elt F)),
    nullary main_cst_2 (constant S_ .f32 0x00000000#32),
    binary main_v20 main_cst_2 main_v21 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v21 main_v22 (broadcastInDim S16384x1 ![0] bcast_S16384_S16384x1_0 : (⟨S16384, .f32⟩ : BufTy).Contents (Elt F) → (⟨S16384x1, .f32⟩ : BufTy).Contents (Elt F)),
    unary main_v22 main_v23 (Host.sqrt : (⟨S16384x1, .f32⟩ : BufTy).Contents (Elt F) → (⟨S16384x1, .f32⟩ : BufTy).Contents (Elt F)),
    binary main_arg2 main_arg2 main_v24 (mulf : (⟨S16384x64, .f32⟩ : BufTy).Contents (Elt F) → (⟨S16384x64, .f32⟩ : BufTy).Contents (Elt F) → (⟨S16384x64, .f32⟩ : BufTy).Contents (Elt F)),
    nullary main_cst_3 (constant S_ .f32 0x00000000#32),
    binary main_v24 main_cst_3 main_v25 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v25 main_v26 (broadcastInDim S16384x1 ![0] bcast_S16384_S16384x1_0 : (⟨S16384, .f32⟩ : BufTy).Contents (Elt F) → (⟨S16384x1, .f32⟩ : BufTy).Contents (Elt F)),
    unary main_v26 main_v27 (Host.sqrt : (⟨S16384x1, .f32⟩ : BufTy).Contents (Elt F) → (⟨S16384x1, .f32⟩ : BufTy).Contents (Elt F)),
    binary main_v23 main_v27 main_v28 (Host.divf : (⟨S16384x1, .f32⟩ : BufTy).Contents (Elt F) → (⟨S16384x1, .f32⟩ : BufTy).Contents (Elt F) → (⟨S16384x1, .f32⟩ : BufTy).Contents (Elt F)),
    nullary main_cst_4 (constant S_ .f32 0x2B8CBCCC#32),
    unary main_cst_4 main_v29 (broadcastInDim S16384x1 ![] bcast_S_S16384x1 : (⟨S_, .f32⟩ : BufTy).Contents (Elt F) → (⟨S16384x1, .f32⟩ : BufTy).Contents (Elt F)),
    binary main_v28 main_v29 main_v30 (addf : (⟨S16384x1, .f32⟩ : BufTy).Contents (Elt F) → (⟨S16384x1, .f32⟩ : BufTy).Contents (Elt F) → (⟨S16384x1, .f32⟩ : BufTy).Contents (Elt F)),
    unary main_v30 main_v31 (broadcastInDim S16384x64 ![0, 1] bcast_S16384x1_S16384x64_0_1 : (⟨S16384x1, .f32⟩ : BufTy).Contents (Elt F) → (⟨S16384x64, .f32⟩ : BufTy).Contents (Elt F)),
    binary main_v31 main_arg2 main_v32 (mulf : (⟨S16384x64, .f32⟩ : BufTy).Contents (Elt F) → (⟨S16384x64, .f32⟩ : BufTy).Contents (Elt F) → (⟨S16384x64, .f32⟩ : BufTy).Contents (Elt F)),
    binary main_v1 main_v32 main_v33 (addf : (⟨S16384x64, .f32⟩ : BufTy).Contents (Elt F) → (⟨S16384x64, .f32⟩ : BufTy).Contents (Elt F) → (⟨S16384x64, .f32⟩ : BufTy).Contents (Elt F)),
    reshape main_v33 main_v34 (rfl : (.f32 : EltTy) = .f32) shapeCasts_S16384x64_S16x32x32x64 ]

/-- @main's operations in order, part of 5: the one-hot counts, the perplexity and the final transpose. -/
abbrev opsPerp : List (HloOp τ sig (Elt F)) :=
  [ TRef.unary (TRef.of (T := ⟨S16384, .i32⟩) main_v17) (TRef.of (T := ⟨S16384x1, .i32⟩) main_call2_v0) (broadcastInDim S16384x1 ![0] bcast_S16384_S16384x1_0),
    TRef.nullary (TRef.of (T := ⟨S1x1024, .i32⟩) main_call2_v1) (iotaInDim S1x1024 32 1),
    TRef.unary (TRef.of (T := ⟨S16384x1, .i32⟩) main_call2_v0) (TRef.of (T := ⟨S16384x1024, .i32⟩) main_call2_v2) (broadcastInDim S16384x1024 ![0, 1] bcast_S16384x1_S16384x1024_0_1),
    TRef.unary (TRef.of (T := ⟨S1x1024, .i32⟩) main_call2_v1) (TRef.of (T := ⟨S16384x1024, .i32⟩) main_call2_v3) (broadcastInDim S16384x1024 ![0, 1] bcast_S1x1024_S16384x1024_0_1),
    TRef.binary (TRef.of (T := ⟨S16384x1024, .i32⟩) main_call2_v2) (TRef.of (T := ⟨S16384x1024, .i32⟩) main_call2_v3) (TRef.of (T := ⟨S16384x1024, .i1⟩) main_call2_v4) (cmpi .eq),
    TRef.unary (TRef.of (T := ⟨S16384x1024, .i1⟩) main_call2_v4) (TRef.of (T := ⟨S16384x1024, .f32⟩) main_v35) (uitofp .f32),
    nullary main_cst_5 (constant S_ .f32 0x00000000#32),
    binary main_v35 main_cst_5 main_v36 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_6 (constant S_ .f32 0x46800000#32),
    unary main_cst_6 main_v37 (broadcastInDim S1024 ![] bcast_S_S1024 : (⟨S_, .f32⟩ : BufTy).Contents (Elt F) → (⟨S1024, .f32⟩ : BufTy).Contents (Elt F)),
    binary main_v36 main_v37 main_v38 (Host.divf : (⟨S1024, .f32⟩ : BufTy).Contents (Elt F) → (⟨S1024, .f32⟩ : BufTy).Contents (Elt F) → (⟨S1024, .f32⟩ : BufTy).Contents (Elt F)),
    nullary main_cst_7 (constant S_ .f32 0x2EDBE6FF#32),
    unary main_cst_7 main_v39 (broadcastInDim S1024 ![] bcast_S_S1024 : (⟨S_, .f32⟩ : BufTy).Contents (Elt F) → (⟨S1024, .f32⟩ : BufTy).Contents (Elt F)),
    binary main_v38 main_v39 main_v40 (addf : (⟨S1024, .f32⟩ : BufTy).Contents (Elt F) → (⟨S1024, .f32⟩ : BufTy).Contents (Elt F) → (⟨S1024, .f32⟩ : BufTy).Contents (Elt F)),
    unary main_v40 main_v41 (Host.log : (⟨S1024, .f32⟩ : BufTy).Contents (Elt F) → (⟨S1024, .f32⟩ : BufTy).Contents (Elt F)),
    binary main_v38 main_v41 main_v42 (mulf : (⟨S1024, .f32⟩ : BufTy).Contents (Elt F) → (⟨S1024, .f32⟩ : BufTy).Contents (Elt F) → (⟨S1024, .f32⟩ : BufTy).Contents (Elt F)),
    nullary main_cst_8 (constant S_ .f32 0x00000000#32),
    binary main_v42 main_cst_8 main_v43 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v43 main_v44 (Host.negf : (⟨S_, .f32⟩ : BufTy).Contents (Elt F) → (⟨S_, .f32⟩ : BufTy).Contents (Elt F)),
    unary main_v44 main_v45 (Host.exp : (⟨S_, .f32⟩ : BufTy).Contents (Elt F) → (⟨S_, .f32⟩ : BufTy).Contents (Elt F)),
    unary main_v34 main_v46 ((transpose S16x64x32x32 [0, 3, 1, 2] · transposes_S16x32x32x64_S16x64x32x32_0_3_1_2) : (⟨S16x32x32x64, .f32⟩ : BufTy).Contents (Elt F) → (⟨S16x64x32x32, .f32⟩ : BufTy).Contents (Elt F)) ]

/-- @main's operations, in order. -/
abbrev ops : List (HloOp τ sig (Elt F)) := opsDist ++ (opsArgmin ++ (opsTake ++ (opsMove ++ opsPerp)))

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem opsDist_sub : (opsDist : List (HloOp τ sig (Elt F))).Forall fun op => op.bufs ⊆ tcRefs τ sig :=
  ⟨unary_bufs_sub .., reshape_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub .., nullary_bufs_sub .., binary_bufs_sub .., unary_bufs_sub .., unary_bufs_sub .., binary_bufs_sub ..⟩

theorem opsArgmin_sub : (opsArgmin : List (HloOp τ sig (Elt F))).Forall fun op => op.bufs ⊆ tcRefs τ sig :=
  ⟨nullary_bufs_sub .., nullary_bufs_sub .., nullary_bufs_sub .., quaternary_bufs_sub .., quaternary_bufs_sub ..⟩

theorem opsTake_sub : (opsTake : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem opsMove_sub : (opsMove : List (HloOp τ sig (Elt F))).Forall fun op => op.bufs ⊆ tcRefs τ sig :=
  ⟨binary_bufs_sub .., binary_bufs_sub .., nullary_bufs_sub .., binary_bufs_sub .., unary_bufs_sub .., unary_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., reshape_bufs_sub ..⟩

theorem opsPerp_sub : (opsPerp : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., unary_bufs_sub ..⟩

theorem opsDist_fresh : ∀ op ∈ (opsDist : List (HloOp τ sig (Elt F))), op.fresh = ∅ := by
  intro _ h; (repeat (cases h with | head => rfl | tail _ h => ?_)); exact nomatch h

theorem opsArgmin_fresh : ∀ op ∈ (opsArgmin : List (HloOp τ sig (Elt F))), op.fresh = ∅ := by
  intro _ h; (repeat (cases h with | head => rfl | tail _ h => ?_)); exact nomatch h

theorem opsTake_fresh : ∀ op ∈ (opsTake : List (HloOp τ sig (Elt F))), op.fresh = ∅ := by
  intro _ h; (repeat (cases h with | head => rfl | tail _ h => ?_)); exact nomatch h

theorem opsMove_fresh : ∀ op ∈ (opsMove : List (HloOp τ sig (Elt F))), op.fresh = ∅ := by
  intro _ h; (repeat (cases h with | head => rfl | tail _ h => ?_)); exact nomatch h

theorem opsPerp_fresh : ∀ op ∈ (opsPerp : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_append.2 ⟨opsDist_sub, List.forall_append.2 ⟨opsArgmin_sub, List.forall_append.2 ⟨opsTake_sub,
    List.forall_append.2 ⟨opsMove_sub, opsPerp_sub⟩⟩⟩⟩

theorem ops_fresh : ∀ op ∈ (ops : List (HloOp τ sig (Elt F))), op.fresh = ∅ := by
  intro op h
  simp only [ops, List.mem_append] at h
  rcases h with h | h | h | h | h
  exacts [opsDist_fresh op h, opsArgmin_fresh op h, opsTake_fresh op h, opsMove_fresh op h, opsPerp_fresh op h]

/-! ## What each part leaves -/

section Parts
variable (V : Valuation τ sig (Elt F))

/-- The first part leaves the tokens. -/
theorem dist_v1 : after opsDist V (Proc.devRef .tc main_v1) = tokens (V (Proc.devRef .tc main_arg0)) := by
  simp only [opsDist, TRef.binary, TRef.nullary, TRef.ternary, TRef.unary, TRef.quaternary, TRef.toBuf, TRef.ofBuf, cast_eq]; after_results_simp <;> rfl

/-- The first part leaves the squared distances. -/
theorem dist_v16 : after opsDist V (Proc.devRef .tc main_v16) = distances (tokens (V (Proc.devRef .tc main_arg0))) (V (Proc.devRef .tc main_arg1)) := by
  simp only [opsDist, TRef.binary, TRef.nullary, TRef.ternary, TRef.unary, TRef.quaternary, TRef.toBuf, TRef.ofBuf, cast_eq]; after_results_simp <;> rfl

/-- The second part leaves the nearest code of every token. -/
theorem argmin_v17 : after opsArgmin V (Proc.devRef .tc main_v17) = nearest (V (Proc.devRef .tc main_v16)) := by
  simp only [opsArgmin, TRef.binary, TRef.nullary, TRef.ternary, TRef.unary, TRef.quaternary, TRef.toBuf, TRef.ofBuf, cast_eq]; after_results_simp <;> rfl

/-- The third part leaves the rows of the chosen codes. -/
theorem take_v18 : after opsTake V (Proc.devRef .tc main_v18) = codeRows (V (Proc.devRef .tc main_arg1)) (V (Proc.devRef .tc main_v17)) := by
  simp only [opsTake, TRef.binary, TRef.nullary, TRef.ternary, TRef.unary, TRef.quaternary, TRef.toBuf, TRef.ofBuf, cast_eq]; after_results_simp <;> rfl

/-- The fourth part leaves the moved tokens. -/
theorem move_v34 : after opsMove V (Proc.devRef .tc main_v34) = moved (V (Proc.devRef .tc main_v1)) (V (Proc.devRef .tc main_v18)) (V (Proc.devRef .tc main_arg2)) := by
  simp only [opsMove, TRef.binary, TRef.nullary, TRef.ternary, TRef.unary, TRef.quaternary, TRef.toBuf, TRef.ofBuf, cast_eq]; after_results_simp <;> rfl

/-- The last part leaves the perplexity. -/
theorem perp_v45 : after opsPerp V (Proc.devRef .tc main_v45) = perplexity (share (chosen (V (Proc.devRef .tc main_v17)))) := by
  simp only [opsPerp, TRef.binary, TRef.nullary, TRef.ternary, TRef.unary, TRef.quaternary, TRef.toBuf, TRef.ofBuf, cast_eq]; after_results_simp <;> rfl

/-- The last part leaves the moved tokens in the input's layout. -/
theorem perp_v46 : after opsPerp V (Proc.devRef .tc main_v46) = channels (V (Proc.devRef .tc main_v34)) := by
  simp only [opsPerp, TRef.binary, TRef.nullary, TRef.ternary, TRef.unary, TRef.quaternary, TRef.toBuf, TRef.ofBuf, cast_eq]; after_results_simp <;> rfl

/-- What the first part writes. -/
abbrev opsDistOut : List (Ref sig .tc) :=
  [main_v0, main_v1, main_v2, main_cst, main_v3, main_v4, main_v5, main_v6, main_cst_0, main_v7, main_v8, main_v9,
    main_v10, main_v11, main_v12, main_cst_1, main_v13, main_v14, main_v15, main_v16]
/-- The first part leaves the rest. -/
theorem opsDist_keep {r : Ref sig .tc} (hr : r ∉ opsDistOut) :
    after opsDist V (Proc.devRef .tc r) = V (Proc.devRef .tc r) :=
  after_of_writes_sub _ _ (forall_writes_sub_of_map (W := opsDistOut) rfl) hr

/-- What the second part writes. -/
abbrev opsArgminOut : List (Ref sig .tc) :=
  [main_call0_v0, main_call0_cst, main_call0_c, main_call0_v1_0, main_v17]
/-- The second part leaves the rest. -/
theorem opsArgmin_keep {r : Ref sig .tc} (hr : r ∉ opsArgminOut) :
    after opsArgmin V (Proc.devRef .tc r) = V (Proc.devRef .tc r) :=
  after_of_writes_sub _ _ (forall_writes_sub_of_map (W := opsArgminOut) rfl) hr

/-- What the third part writes. -/
abbrev opsTakeOut : List (Ref sig .tc) :=
  [main_call1_c, main_call1_v0, main_call1_v1, main_call1_c_0, main_call1_v2, main_call1_v3, main_call1_v4,
    main_call1_v5, main_call1_c_1, main_call1_c_2, main_call1_v6, main_call1_v7, main_call1_v8, main_call1_v9,
    main_call1_v10, main_call1_v11, main_call1_c_3, main_call1_v12, main_call1_v13, main_call1_v14, main_call1_cst,
    main_call1_v15, main_v18]
/-- The third part leaves the rest. -/
theorem opsTake_keep {r : Ref sig .tc} (hr : r ∉ opsTakeOut) :
    after opsTake V (Proc.devRef .tc r) = V (Proc.devRef .tc r) :=
  after_of_writes_sub _ _ (forall_writes_sub_of_map (W := opsTakeOut) rfl) hr

/-- What the fourth part writes. -/
abbrev opsMoveOut : List (Ref sig .tc) :=
  [main_v19, main_v20, main_cst_2, main_v21, main_v22, main_v23, main_v24, main_cst_3, main_v25, main_v26, main_v27,
    main_v28, main_cst_4, main_v29, main_v30, main_v31, main_v32, main_v33, main_v34]
/-- The fourth part leaves the rest. -/
theorem opsMove_keep {r : Ref sig .tc} (hr : r ∉ opsMoveOut) :
    after opsMove V (Proc.devRef .tc r) = V (Proc.devRef .tc r) :=
  after_of_writes_sub _ _ (forall_writes_sub_of_map (W := opsMoveOut) rfl) hr

/-- What the last part writes. -/
abbrev opsPerpOut : List (Ref sig .tc) :=
  [main_call2_v0, main_call2_v1, main_call2_v2, main_call2_v3, main_call2_v4, main_v35, main_cst_5, main_v36,
    main_cst_6, main_v37, main_v38, main_cst_7, main_v39, main_v40, main_v41, main_v42, main_cst_8, main_v43,
    main_v44, main_v45, main_v46]
/-- The last part leaves the rest. -/
theorem opsPerp_keep {r : Ref sig .tc} (hr : r ∉ opsPerpOut) :
    after opsPerp V (Proc.devRef .tc r) = V (Proc.devRef .tc r) :=
  after_of_writes_sub _ _ (forall_writes_sub_of_map (W := opsPerpOut) rfl) hr

end Parts

/-- Every result array at its value, the arguments unchanged, every counter zero. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
        = channels (moved (tokens (m ((c.tc : Thread nD τ).loc main_arg0)))
            (codeRows (m ((c.tc : Thread nD τ).loc main_arg1))
              (nearest (distances (tokens (m ((c.tc : Thread nD τ).loc main_arg0))) (m ((c.tc : Thread nD τ).loc main_arg1)))))
            (m ((c.tc : Thread nD τ).loc main_arg2)))
      ∧ r.2.mem ((c.tc : Thread nD τ).loc main_v45)
        = perplexity (share (chosen (nearest
            (distances (tokens (m ((c.tc : Thread nD τ).loc main_arg0))) (m ((c.tc : Thread nD τ).loc main_arg1))))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_)
    (run_seq scopedRefs_eq scopedSems_eq defs main (fun _ => ops) main_eq (fun _ => ops_sub) m ρ (fun _ => ops_fresh))
  refine ⟨(h c main_v46).trans ?_, (h c main_v45).trans ?_, (h c main_arg0).trans ?_, (h c main_arg1).trans ?_,
    (h c main_arg2).trans ?_⟩
  · rw [ops, after_append, after_append, after_append, after_append, perp_v46, move_v34, take_v18, opsTake_keep _ (by decide),
      opsTake_keep _ (by decide), argmin_v17, opsArgmin_keep _ (by decide), opsArgmin_keep _ (by decide),
      opsArgmin_keep _ (by decide), dist_v1, dist_v16, opsDist_keep _ (by decide), opsDist_keep _ (by decide)]
  · rw [ops, after_append, after_append, after_append, after_append, perp_v45, opsMove_keep _ (by decide),
      opsTake_keep _ (by decide), argmin_v17, dist_v16]
  all_goals
    rw [ops, after_append, after_append, after_append, after_append, opsPerp_keep _ (by decide), opsMove_keep _ (by decide),
      opsTake_keep _ (by decide), opsArgmin_keep _ (by decide), opsDist_keep _ (by decide)]

/-- The reference runs, leaves its arguments unchanged and every counter zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2.2, sem_eq_zero_of_no_sems (by decide) r.2⟩) (run m ρ)

end Cert.ReferenceIdeal.Run

end
-- ==== Proof.RefRead.lean ====
/- The reference's values over the extended reals, read at an index. -/
module

public import proofs.«01_k».proof.Proof.RefRun
public import proofs.«01_k».proof.Proof.Tokens
public import Idealize.ShloMosaic.Lib.Pointwise
public import Idealize.ShloMosaic.Lib.Routing.Ops
public import Idealize.ShloMosaic.Lib.WordCmp

@[expose] public section

set_option maxRecDepth 16384

noncomputable section

namespace Cert.ReferenceIdeal.Run

open Cert.ReferenceIdeal Cert.ReferenceIdeal.Gen Idealize.ShloMosaic

/-- A row of the tokens is a position of an image. -/
theorem tokens_at (x : FVec Ideal S16x64x32x32 .f32) (b : Fin 16) (h w : Fin 32) (d : Fin 64) (n : Fin 16384)
    (hn : (b.val * 32 + h.val) * 32 + w.val = n.val) : tokens x (ix2 n d) = x (ix4 b d h w) := by
  pointwise [tokens]
  have hb : (⟨n.val / 1024, by omega⟩ : Fin 16) = b := Fin.ext (by show n.val / 1024 = b.val; omega)
  have hh : (⟨n.val / 32 % 32, by omega⟩ : Fin 32) = h := Fin.ext (by show n.val / 32 % 32 = h.val; omega)
  have hw : (⟨n.val % 32, by omega⟩ : Fin 32) = w := Fin.ext (by show n.val % 32 = w.val; omega)
  rw [hb, hh, hw]

/-- The distance of a token to a code. -/
theorem distances_at (t : FVec Ideal S16384x64 .f32) (c : FVec Ideal S1024x64 .f32) (n : Fin 16384) (k : Fin 1024) :
    distances t c (ix2 n k) = Tokens.spread (fun d => c (ix2 k d)) (fun d => t (ix2 n d)) := by
  pointwise [distances]
  rfl

/-- A position of the moved images: its token moved by its distance to the given row. -/
theorem moved_at (t q rv : FVec Ideal S16384x64 .f32) (b : Fin 16) (h w : Fin 32) (d : Fin 64) (n : Fin 16384)
    (hn : (b.val * 32 + h.val) * 32 + w.val = n.val) :
    channels (moved t q rv) (ix4 b d h w) = Tokens.shift (∑ e, (t (ix2 n e) - q (ix2 n e)) * (t (ix2 n e) - q (ix2 n e)))
      (t (ix2 n d)) (fun e => rv (ix2 n e)) d := by
  have hN : (⟨b.val * 1024 + h.val * 32 + w.val, by omega⟩ : Fin 16384) = n :=
    Fin.ext (by show b.val * 1024 + h.val * 32 + w.val = n.val; omega)
  pointwise [channels, moved, rowNorm]
  rw [hN, mul_comm _ (rv (ix2 n d))]
  rfl

/-- The count of a code: the tokens whose index is the code's. -/
theorem chosen_at (i : IVec S16384 32) (k : Fin 1024) :
    (chosen i : FVec Ideal S1024 .f32) (ix1 k) = ∑ n : Fin 16384, if i (ix1 n) = BitVec.ofNat 32 k.val then 1 else 0 := by
  pointwise [chosen]
  refine Finset.sum_congr rfl fun n _ => ?_
  rw [WordCmp.cmpi_eq_eq]
  split_ifs with h
  · rw [decide_eq_true h]
    show (((1 : ℕ) : ℝ) : EReal) = 1
    simp
  · rw [decide_eq_false h]
    show (((0 : ℕ) : ℝ) : EReal) = 0
    simp

/-- The perplexity of the shares of the counts. -/
theorem perplexity_at (n : FVec Ideal S1024 .f32) (j : S_.Idx) :
    perplexity (share n) j = Tokens.perplexity fun k => n (ix1 k) := by
  pointwise [perplexity, share]
  unfold Tokens.perplexity
  rw [zero_sub]

/-- An index that is a code's number is left as it is. -/
theorem wrapped_at (i : IVec S16384 32) (n : Fin 16384) (k : Fin 1024) (hi : i (ix1 n) = BitVec.ofNat 32 k.val) :
    wrapped i (ix2 n 0) = BitVec.ofNat 32 k.val := by
  have hk : (BitVec.ofNat 32 k.val).toInt = (k.val : Int) := StableHlo.Predicate.toInt_ofNat_small _ (by omega)
  pointwise [wrapped]
  rw [hi, WordCmp.cmpi_slt_eq, hk, decide_eq_false (by simp)]
  rfl

/-- The row at an index that is a code's number is the code. -/
theorem codeRows_at (c : FVec Ideal S1024x64 .f32) (i : IVec S16384 32) (n : Fin 16384) (k : Fin 1024)
    (hi : i (ix1 n) = BitVec.ofNat 32 k.val) (d : Fin 64) : codeRows c i (ix2 n d) = c (ix2 k d) := by
  have hw := wrapped_at i n k hi
  have hk : (BitVec.ofNat 32 k.val).toInt = (k.val : Int) := StableHlo.Predicate.toInt_ofNat_small _ (by omega)
  have hg : Host.gather gather_S1024x64_S16384x1_S16384x64_1_0_n_n_0_1_164 c (wrapped i) (ix2 n d) = c (ix2 k d) := by
    have hc : ∀ {a b : Nat} (x : Fin a) (y : Fin b), ix2 x y = ValueIdx.ix2 x y := fun x y => by
      funext t
      match t with
      | ⟨0, _⟩ => rfl
      | ⟨1, _⟩ => rfl
    rw [hc, hc]
    exact Routing.gather_row gather_S1024x64_S16384x1_S16384x64_1_0_n_n_0_1_164 rfl rfl rfl rfl rfl c (wrapped i) n d k
      (by rw [← hc]; exact hw) (by decide)
  unfold codeRows
  generalize wrapped i = W at hw hg
  have h0 : IntOp.cmpi .sge (W (ix2 n 0)) 0#32 = 1#1 := by
    rw [hw, WordCmp.cmpi_sge_eq, hk, decide_eq_true (by simp)]
    rfl
  have h1 : IntOp.cmpi .sle (W (ix2 n 0)) 1023#32 = 1#1 := by
    rw [hw, WordCmp.cmpi_sle_eq, hk, decide_eq_true (by show (k.val : Int) ≤ 1023; omega)]
    rfl
  pointwise
  rw [hg, Finset.univ_unique, Finset.fold_singleton]
  change Scalar.select (IntOp.andi (IntOp.andi (IntOp.cmpi .sge (W (ix2 n 0)) 0#32) (IntOp.cmpi .sle (W (ix2 n 0)) 1023#32)) 1#1) _ _ = _
  rw [h0, h1]
  rfl

end Cert.ReferenceIdeal.Run

end
-- ==== Proof.PreFacts.lean ====
/- What the precondition says: the inputs and the codebook are finite, and every token has one nearest code, whose number
   the reference finds. -/
module

public import proofs.«01_k».proof.Proof.Gen.Pre_finite_untied
public import proofs.«01_k».proof.Proof.RefRead

@[expose] public section

set_option maxRecDepth 16384

noncomputable section

namespace Cert.ReferenceIdeal.Run

open Cert.ReferenceIdeal Cert.ReferenceIdeal.Gen Idealize.ShloMosaic

variable (x : FVec Ideal S16x64x32x32 .f32) (c : FVec Ideal S1024x64 .f32) (r : FVec Ideal S16384x64 .f32)

/-- Which codes of a token are the numbered one or are farther than the least distance. -/
def untied (D : FVec Ideal S16384x1024 .f32) (i : IVec S16384 32) : IVec S16384x1024 1 :=
  ori (cmpf .ogt D (broadcastInDim S16384x1024 ![0, 1] bcast_S16384x1_S16384x1024_0_1
      (broadcastInDim S16384x1 ![0] bcast_S16384_S16384x1_0
        (Host.reduce FloatOps.minimumf D (constant S_ .f32 0x7F800000#32) reducesTo_S16384x1024_S16384_d1 h_S_))))
    (cmpi .eq (iotaInDim S16384x1024 32 1) (broadcastInDim S16384x1024 ![0, 1] bcast_S16384x1_S16384x1024_0_1
      (shapeCast S16384x1 i Cert.Pre_finite_untied.Gen.shapeCasts_S16384_S16384x1)))

/-- The precondition's third part is about the reference's own distances and nearest codes. -/
theorem pre_untied : (Cert.Pre_finite_untied.fn x c r).2.2 = untied (distances (tokens x) c) (nearest (distances (tokens x) c)) := rfl

/-- A comparison of a magnitude against infinity that holds bounds the magnitude. -/
theorem finite_of_word (a : EReal) (h : BitVec.ofBool (decide (max a (-a) < Ideal.ofBits .f32 0x7F800000#32)) = 1#1) :
    max a (-a) < ⊤ := by
  rw [Tokens.ofBits_top] at h
  by_contra hn
  rw [decide_eq_false hn] at h
  exact absurd h (by decide)

/-- The precondition's first part: the inputs are finite. -/
theorem pre_inputs (h : (Cert.Pre_finite_untied.fn x c r).1 = fun _ => 1#1) (j : S16x64x32x32.Idx) : max (x j) (-(x j)) < ⊤ := by
  have hj : (cmpf .olt (Host.absf x) (broadcastInDim S16x64x32x32 ![] Cert.Pre_finite_untied.Gen.bcast_S_S16x64x32x32
    (constant S_ .f32 0x7F800000#32)) j : BitVec 1) = 1#1 := congrFun h j
  apply finite_of_word
  rw [← hj]
  pointwise
  rfl

/-- The precondition's second part: the codebook is finite. -/
theorem pre_codes (h : (Cert.Pre_finite_untied.fn x c r).2.1 = fun _ => 1#1) (j : S1024x64.Idx) : max (c j) (-(c j)) < ⊤ := by
  have hj : (cmpf .olt (Host.absf c) (broadcastInDim S1024x64 ![] Cert.Pre_finite_untied.Gen.bcast_S_S1024x64
    (constant S_ .f32 0x7F800000#32)) j : BitVec 1) = 1#1 := congrFun h j
  apply finite_of_word
  rw [← hj]
  pointwise
  rfl

/-- Where the third part holds, a code is farther than the least distance or is the numbered one. -/
theorem untied_at (D : FVec Ideal S16384x1024 .f32) (i : IVec S16384 32) (n : Fin 16384) (k : Fin 1024)
    (h : untied D i (ix2 n k) = 1#1) :
    (Finset.univ.fold min (Ideal.ofBits .f32 0x7F800000#32) fun k => D (ix2 n k)) < D (ix2 n k) ∨ BitVec.ofNat 32 k.val = i (ix1 n) := by
  revert h
  pointwise [untied]
  rw [WordCmp.cmpi_eq_eq]
  intro h
  by_contra hn
  obtain ⟨h1, h2⟩ := not_or.mp hn
  rw [decide_eq_false h1, decide_eq_false h2] at h
  exact absurd h (by decide)

/-- Under the third part, the reference's index is the number of a nearest code, and no other code is as near. -/
theorem nearest_spec (h : (Cert.Pre_finite_untied.fn x c r).2.2 = fun _ => 1#1) (n : Fin 16384) :
    ∃ i : Fin 1024, nearest (distances (tokens x) c) (ix1 n) = BitVec.ofNat 32 i.val
      ∧ (∀ k, Tokens.spread (fun d => c (ix2 i d)) (fun d => tokens x (ix2 n d))
          ≤ Tokens.spread (fun d => c (ix2 k d)) (fun d => tokens x (ix2 n d)))
      ∧ ∀ k, Tokens.spread (fun d => c (ix2 k d)) (fun d => tokens x (ix2 n d))
          ≤ Tokens.spread (fun d => c (ix2 i d)) (fun d => tokens x (ix2 n d)) → k = i := by
  rw [pre_untied] at h
  obtain ⟨i, hi⟩ := Tokens.exists_nearest (fun k d => c (ix2 k d)) (fun d => tokens x (ix2 n d))
  have hfold := Tokens.fold_min_eq (fun k => Tokens.spread (fun d => c (ix2 k d)) (fun d => tokens x (ix2 n d))) i hi
  have hor : ∀ k, Tokens.spread (fun d => c (ix2 i d)) (fun d => tokens x (ix2 n d))
      < Tokens.spread (fun d => c (ix2 k d)) (fun d => tokens x (ix2 n d))
        ∨ BitVec.ofNat 32 k.val = nearest (distances (tokens x) c) (ix1 n) := fun k => by
    have hk := untied_at _ _ n k (congrFun h (ix2 n k))
    simp only [distances_at] at hk
    rw [Tokens.ofBits_top, hfold] at hk
    exact hk
  have hA := (hor i).resolve_left (lt_irrefl _)
  refine ⟨i, hA.symm, hi, fun k hk => ?_⟩
  have hw := ((hor k).resolve_left (not_lt.mpr hk)).trans hA.symm
  have hN := congrArg BitVec.toNat hw
  simp only [BitVec.toNat_ofNat] at hN
  exact Fin.ext (by omega)

end Cert.ReferenceIdeal.Run

end
-- ==== Proof.Equation.lean ====
/- The kernel's two results are the reference's, of finite inputs and a finite codebook whose tokens have one nearest code each. -/
module

public import proofs.«01_k».proof.Proof.KernelRead
public import proofs.«01_k».proof.Proof.PreFacts

@[expose] public section

set_option maxRecDepth 16384

noncomputable section

namespace Cert.Equation

open Cert.KernelIdeal Cert.KernelIdeal.Gen Cert.KernelIdeal.Value Idealize.ShloMosaic
open Cert.ReferenceIdeal.Run (tokens distances nearest codeRows moved channels chosen share perplexity)

variable (x : FVec Ideal S16x64x32x32 .f32) (c : FVec Ideal S1024x64 .f32) (r : FVec Ideal S16384x64 .f32)

/-- The inputs as the kernel takes them, each channel's rows in a line. -/
abbrev pictures : Vec Ideal S16x64x1024 .f32 := shapeCast S16x64x1024 x shapeCasts_S16x64x32x32_S16x64x1024
/-- The random vectors as the kernel takes them, channels first. -/
abbrev noises : Vec Ideal S16x64x1024 .f32 :=
  transpose S16x64x1024 [0, 2, 1] (shapeCast S16x1024x64 r shapeCasts_S16384x64_S16x1024x64) transposes_S16x1024x64_S16x64x1024_0_2_1

/-- The kernel's token of the inputs is the reference's. -/
theorem token_images (n : Fin 16384) (d : Fin 64) :
    token (pictures x) n d = tokens x (ix2 n d) := by
  pointwise [token, tokens]
  have h1 : (⟨n.val % 1024 / 32, by omega⟩ : Fin 32) = ⟨n.val / 32 % 32, by omega⟩ :=
    Fin.ext (by show n.val % 1024 / 32 = n.val / 32 % 32; omega)
  have h2 : (⟨n.val % 1024 % 32, by omega⟩ : Fin 32) = ⟨n.val % 32, by omega⟩ :=
    Fin.ext (by show n.val % 1024 % 32 = n.val % 32; omega)
  rw [h1, h2]

/-- The kernel's random vector of a token is the argument's row. -/
theorem token_randoms (n : Fin 16384) (d : Fin 64) :
    token (noises r) n d = r (ix2 n d) := by
  pointwise [token]

variable (h : (Cert.Pre_finite_untied.fn x c r).1 = (fun _ => 1#1) ∧ (Cert.Pre_finite_untied.fn x c r).2.1 = (fun _ => 1#1)
  ∧ (Cert.Pre_finite_untied.fn x c r).2.2 = (fun _ => 1#1))

include h in
/-- Under the precondition the codes and every token are finite, and the reference's index of a token is the number of
    its one nearest code. -/
theorem facts (n : Fin 16384) : (∀ k d, max (codes c k d) (-(codes c k d)) < ⊤)
    ∧ (∀ d, max (tokens x (ix2 n d)) (-(tokens x (ix2 n d))) < ⊤)
    ∧ ∃ i : Fin 1024, nearest (distances (tokens x) c) (ix1 n) = BitVec.ofNat 32 i.val
      ∧ (∀ k, Tokens.spread (codes c i) (fun d => tokens x (ix2 n d)) ≤ Tokens.spread (codes c k) (fun d => tokens x (ix2 n d)))
      ∧ ∀ k, Tokens.spread (codes c k) (fun d => tokens x (ix2 n d)) ≤ Tokens.spread (codes c i) (fun d => tokens x (ix2 n d)) → k = i := by
  refine ⟨fun k d => Cert.ReferenceIdeal.Run.pre_codes x c r h.2.1 _, fun d => ?_,
    Cert.ReferenceIdeal.Run.nearest_spec x c r h.2.2 n⟩
  have hx := Cert.ReferenceIdeal.Run.pre_inputs x c r h.1
  have hn := n.isLt
  rw [Cert.ReferenceIdeal.Run.tokens_at x ⟨n.val / 1024, by omega⟩ ⟨n.val / 32 % 32, by omega⟩ ⟨n.val % 32, by omega⟩ d n
    (by show (n.val / 1024 * 32 + n.val / 32 % 32) * 32 + n.val % 32 = n.val; omega)]
  exact hx _

include h in
/-- The first result: the moved tokens. -/
theorem moved_eq : shapeCast S16x64x32x32 (movedAll (k0_pay5 c) (pictures x) (noises r)) shapeCasts_S16x64x1024_S16x64x32x32
    = channels (moved (tokens x) (codeRows c (nearest (distances (tokens x) c))) r) := by
  funext j
  obtain ⟨b, d, hh, w, rfl⟩ : ∃ b d hh w, j = ix4 b d hh w := ⟨j 0, j 1, j 2, j 3, by
    funext a
    match a with
    | ⟨0, _⟩ => rfl
    | ⟨1, _⟩ => rfl
    | ⟨2, _⟩ => rfl
    | ⟨3, _⟩ => rfl⟩
  have hT : ∀ n, token (pictures x) n = fun d => tokens x (ix2 n d) := fun n => funext (token_images x n)
  have hR : ∀ n, token (noises r) n = fun d => r (ix2 n d) := fun n => funext (token_randoms r n)
  have hb := b.isLt
  have h1 := hh.isLt
  have h2 := w.isLt
  obtain ⟨n, hn⟩ : ∃ n : Fin 16384, (b.val * 32 + hh.val) * 32 + w.val = n.val := ⟨⟨_, by omega⟩, rfl⟩
  obtain ⟨hc, hx, i, hi, hle, -⟩ := facts x c r h n
  have hrow : ∀ e, codeRows c (nearest (distances (tokens x) c)) (ix2 n e) = c (ix2 i e) :=
    Cert.ReferenceIdeal.Run.codeRows_at c _ n i hi
  rw [Cert.ReferenceIdeal.Run.moved_at _ _ _ b hh w d n hn]
  have hcast := shapeCast_apply (movedAll (k0_pay5 c) (pictures x) (noises r)) shapeCasts_S16x64x1024_S16x64x32x32 (ix4 b d hh w)
      (ix3 b d ⟨hh.val * 32 + w.val, by omega⟩) (by
    rw [Shape.rowMajor_val_three, Shape.rowMajor_val_four]
    show (b.val * 64 + d.val) * 1024 + (hh.val * 32 + w.val) = ((b.val * 64 + d.val) * 32 + hh.val) * 32 + w.val
    omega)
  rw [hcast, movedAll_apply c _ _ b d _ n (by show b.val * 1024 + (hh.val * 32 + w.val) = n.val; omega), hT, hR,
    Tokens.dist_nearest hc hx hle]
  simp only [hrow]
  rfl

include h in
/-- The count of a code is the number of tokens it is the nearest to. -/
theorem counts_eq (k : Fin 1024) : countsAt (k0_pay5 c) (pictures x) 3 (ix2 k 0)
    = (chosen (nearest (distances (tokens x) c)) : FVec Ideal _ .f32) (ix1 k) := by
  rw [counts_at, Cert.ReferenceIdeal.Run.chosen_at]
  refine Finset.sum_congr rfl fun n _ => ?_
  obtain ⟨hc, hx, i, hi, hle, hu⟩ := facts x c r h n
  have hT : token (pictures x) n = fun d => tokens x (ix2 n d) := funext (token_images x n)
  have hw : nearest (distances (tokens x) c) (ix1 n) = BitVec.ofNat 32 k.val ↔ k = i := by
    rw [hi]
    refine ⟨fun e => ?_, fun e => by rw [e]⟩
    have hN := congrArg BitVec.toNat e
    simp only [BitVec.toNat_ofNat] at hN
    exact Fin.ext (by omega)
  rw [hT]
  exact if_congr ((Tokens.score_eq_least hc hx hle hu k).trans hw.symm) rfl rfl

include h in
/-- The second result: the perplexity. -/
theorem perplexity_eq : shapeCast S_ (k0_pay4 (countsAt (k0_pay5 c) (pictures x) 3)) shapeCasts_S1x1_S_
    = perplexity (share (chosen (nearest (distances (tokens x) c)))) := by
  funext j
  rw [Cert.ReferenceIdeal.Run.perplexity_at]
  refine (perp_at _ _).trans (congrArg Tokens.perplexity (funext fun k => ?_))
  exact counts_eq x c r h k

end Cert.Equation

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Pre_finite_untied
public import proofs.«01_k».proof.Proof.Equation
public import Idealize.ShloMosaic.Adequacy
public import Idealize.ShloMosaic.Init

@[expose] public section

noncomputable section

namespace Cert.Proof

open Idealize.ShloMosaic Idealize.SL.Sem

/-- Of finite inputs and a finite codebook whose tokens have one nearest code each, the kernel and the reference end with
    the same moved images and the same perplexity. -/
theorem same_results : Cert.algebraic_KernelIdeal_ReferenceIdeal_pre_finite_untied
    (hKernelIdeal := Cert.KernelIdeal.Gen.facts) (hReferenceIdeal := Cert.ReferenceIdeal.Gen.facts)
    (hPre_finite_untied := Cert.Pre_finite_untied.Gen.facts) := by
  intro m ρ m' ρ' hpre hagree
  refine ⟨_, _, Cert.KernelIdeal.Value.run m ρ, ?_⟩
  refine (θ_run Cert.ReferenceIdeal.defs _ _).mono (fun r h c => ?_) (Cert.ReferenceIdeal.Run.run m' ρ')
  obtain ⟨h1, h2, hargs⟩ := h c
  obtain ⟨a0, a1, a2⟩ := hagree c
  refine ⟨h1.trans ?_, h2.trans ?_, hargs⟩
  · rw [a0, a1, a2]
    exact (Cert.Equation.moved_eq _ _ _ (hpre c)).symm
  · rw [a0, a1]
    exact (Cert.Equation.perplexity_eq _ _ _ (hpre c)).symm

/-- Everything the certificate claims: both kernels and the reference run, leave their arguments unchanged and every
    counter zero; the idealization rewrote nothing; the kernel's results are the reference's. -/
theorem claim : Cert.Claim :=
  ⟨Cert.Kernel.Gen.facts, Cert.KernelIdeal.Gen.facts, Cert.ReferenceIdeal.Gen.facts, Cert.Pre_finite_untied.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Run.frame m ρ,
    fun m ρ _ => Cert.ReferenceIdeal.Run.frame m ρ, trivial, same_results⟩

end Cert.Proof

end
